-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_BackKernel (m : (ℓ : Loc Cert.BackKernel.nD Cert.BackKernel.τ Cert.BackKernel.sig) → Buf (Elt Bits) ℓ) : Prop :=
  True

def Pre_BackKernelIdeal (m : (ℓ : Loc Cert.BackKernelIdeal.nD Cert.BackKernelIdeal.τ Cert.BackKernelIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_ExpertsKernel (m : (ℓ : Loc Cert.ExpertsKernel.nD Cert.ExpertsKernel.τ Cert.ExpertsKernel.sig) → Buf (Elt Bits) ℓ) : Prop :=
  True

def Pre_ExpertsKernelIdeal (m : (ℓ : Loc Cert.ExpertsKernelIdeal.nD Cert.ExpertsKernelIdeal.τ Cert.ExpertsKernelIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_BackKernel [hBackKernel : Cert.BackKernel.Facts] : Prop :=
  ∀ (m : (ℓ : Loc Cert.BackKernel.nD Cert.BackKernel.τ Cert.BackKernel.sig) → Buf (Elt Bits) ℓ) (g : Dev Cert.BackKernel.nD → PrngReg), Pre_BackKernel m →
    θ_run (Cert.BackKernel.defs (F := Bits)) (onTc (τ := Cert.BackKernel.τ) (Cert.BackKernel.main (F := Bits))) ⟨m, fun _ => 0, g⟩ (fun r => (∀ c : Dev Cert.BackKernel.nD,
      r.2.mem ((c.tc : Thread Cert.BackKernel.nD Cert.BackKernel.τ).loc Cert.BackKernel.main_arg0) = m ((c.tc : Thread Cert.BackKernel.nD Cert.BackKernel.τ).loc Cert.BackKernel.main_arg0)
      ∧ r.2.mem ((c.tc : Thread Cert.BackKernel.nD Cert.BackKernel.τ).loc Cert.BackKernel.main_arg1) = m ((c.tc : Thread Cert.BackKernel.nD Cert.BackKernel.τ).loc Cert.BackKernel.main_arg1))
      ∧ r.2.sem = fun _ => 0)

def quiescent_BackKernelIdeal [hBackKernelIdeal : Cert.BackKernelIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg), Pre_BackKernelIdeal m →
    θ_run (Cert.BackKernelIdeal.defs (F := Ideal)) (onTc (τ := Cert.BackKernelIdeal.τ) (Cert.BackKernelIdeal.main (F := Ideal))) ⟨m, fun _ => 0, g⟩ (fun r => (∀ c : Dev Cert.BackKernelIdeal.nD,
      r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
      ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1))
      ∧ r.2.sem = fun _ => 0)

def quiescent_ExpertsKernel [hExpertsKernel : Cert.ExpertsKernel.Facts] : Prop :=
  ∀ (m : (ℓ : Loc Cert.ExpertsKernel.nD Cert.ExpertsKernel.τ Cert.ExpertsKernel.sig) → Buf (Elt Bits) ℓ) (g : Dev Cert.ExpertsKernel.nD → PrngReg), Pre_ExpertsKernel m →
    θ_run (Cert.ExpertsKernel.defs (F := Bits)) (onTc (τ := Cert.ExpertsKernel.τ) (Cert.ExpertsKernel.main (F := Bits))) ⟨m, fun _ => 0, g⟩ (fun r => (∀ c : Dev Cert.ExpertsKernel.nD,
      r.2.mem ((c.tc : Thread Cert.ExpertsKernel.nD Cert.ExpertsKernel.τ).loc Cert.ExpertsKernel.main_arg0) = m ((c.tc : Thread Cert.ExpertsKernel.nD Cert.ExpertsKernel.τ).loc Cert.ExpertsKernel.main_arg0)
      ∧ r.2.mem ((c.tc : Thread Cert.ExpertsKernel.nD Cert.ExpertsKernel.τ).loc Cert.ExpertsKernel.main_arg1) = m ((c.tc : Thread Cert.ExpertsKernel.nD Cert.ExpertsKernel.τ).loc Cert.ExpertsKernel.main_arg1)
      ∧ r.2.mem ((c.tc : Thread Cert.ExpertsKernel.nD Cert.ExpertsKernel.τ).loc Cert.ExpertsKernel.main_arg2) = m ((c.tc : Thread Cert.ExpertsKernel.nD Cert.ExpertsKernel.τ).loc Cert.ExpertsKernel.main_arg2)
      ∧ r.2.mem ((c.tc : Thread Cert.ExpertsKernel.nD Cert.ExpertsKernel.τ).loc Cert.ExpertsKernel.main_arg3) = m ((c.tc : Thread Cert.ExpertsKernel.nD Cert.ExpertsKernel.τ).loc Cert.ExpertsKernel.main_arg3))
      ∧ r.2.sem = fun _ => 0)

def quiescent_ExpertsKernelIdeal [hExpertsKernelIdeal : Cert.ExpertsKernelIdeal.Facts] : Prop :=
  ∀ (m : (ℓ : Loc Cert.ExpertsKernelIdeal.nD Cert.ExpertsKernelIdeal.τ Cert.ExpertsKernelIdeal.sig) → Buf (Elt Ideal) ℓ) (g : Dev Cert.ExpertsKernelIdeal.nD → PrngReg), Pre_ExpertsKernelIdeal m →
    θ_run (Cert.ExpertsKernelIdeal.defs (F := Ideal)) (onTc (τ := Cert.ExpertsKernelIdeal.τ) (Cert.ExpertsKernelIdeal.main (F := Ideal))) ⟨m, fun _ => 0, g⟩ (fun r => (∀ c : Dev Cert.ExpertsKernelIdeal.nD,
      r.2.mem ((c.tc : Thread Cert.ExpertsKernelIdeal.nD Cert.ExpertsKernelIdeal.τ).loc Cert.ExpertsKernelIdeal.main_arg0) = m ((c.tc : Thread Cert.ExpertsKernelIdeal.nD Cert.ExpertsKernelIdeal.τ).loc Cert.ExpertsKernelIdeal.main_arg0)
      ∧ r.2.mem ((c.tc : Thread Cert.ExpertsKernelIdeal.nD Cert.ExpertsKernelIdeal.τ).loc Cert.ExpertsKernelIdeal.main_arg1) = m ((c.tc : Thread Cert.ExpertsKernelIdeal.nD Cert.ExpertsKernelIdeal.τ).loc Cert.ExpertsKernelIdeal.main_arg1)
      ∧ r.2.mem ((c.tc : Thread Cert.ExpertsKernelIdeal.nD Cert.ExpertsKernelIdeal.τ).loc Cert.ExpertsKernelIdeal.main_arg2) = m ((c.tc : Thread Cert.ExpertsKernelIdeal.nD Cert.ExpertsKernelIdeal.τ).loc Cert.ExpertsKernelIdeal.main_arg2)
      ∧ r.2.mem ((c.tc : Thread Cert.ExpertsKernelIdeal.nD Cert.ExpertsKernelIdeal.τ).loc Cert.ExpertsKernelIdeal.main_arg3) = m ((c.tc : Thread Cert.ExpertsKernelIdeal.nD Cert.ExpertsKernelIdeal.τ).loc Cert.ExpertsKernelIdeal.main_arg3))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "gone" .f32 0xFF61B1E6#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)) →
    ∃ (v0 : (c : Dev Cert.QkvKernelIdeal.nD) → Buf (Elt Ideal) ((c.tc : Thread Cert.QkvKernelIdeal.nD Cert.QkvKernelIdeal.τ).loc Cert.QkvKernelIdeal.main_v1)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v1) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v1) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v2) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v2) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_BackKernel_BackKernelIdeal : Prop :=
  True

def algebraic_BackKernelIdeal_BackReferenceIdeal [hBackKernelIdeal : Cert.BackKernelIdeal.Facts] [hBackReferenceIdeal : Cert.BackReferenceIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackKernelIdeal m →
    (∀ c : Dev Cert.BackKernelIdeal.nD,
      m' ((c.tc : Thread Cert.BackReferenceIdeal.nD Cert.BackReferenceIdeal.τ).loc Cert.BackReferenceIdeal.main_arg0) = m ((c.tc : Thread Cert.BackKernelIdeal.nD Cert.BackKernelIdeal.τ).loc Cert.BackKernelIdeal.main_arg0)
      ∧ m' ((c.tc : Thread Cert.BackReferenceIdeal.nD Cert.BackReferenceIdeal.τ).loc Cert.BackReferenceIdeal.main_arg1) = m ((c.tc : Thread Cert.BackKernelIdeal.nD Cert.BackKernelIdeal.τ).loc Cert.BackKernelIdeal.main_arg1)) →
    ∃ (v0 : (c : Dev Cert.BackKernelIdeal.nD) → Buf (Elt Ideal) ((c.tc : Thread Cert.BackKernelIdeal.nD Cert.BackKernelIdeal.τ).loc Cert.BackKernelIdeal.main_v1)),
      θ_run (Cert.BackKernelIdeal.defs (F := Ideal)) (onTc (τ := Cert.BackKernelIdeal.τ) (Cert.BackKernelIdeal.main (F := Ideal))) ⟨m, fun _ => 0, g⟩ (fun r => ∀ c : Dev Cert.BackKernelIdeal.nD,
          r.2.mem ((c.tc : Thread Cert.BackKernelIdeal.nD Cert.BackKernelIdeal.τ).loc Cert.BackKernelIdeal.main_v1) = v0 c
          ∧ r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
          ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v1) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1))

def preserves_ExpertsKernel_ExpertsKernelIdeal : Prop :=
  True

def algebraic_ExpertsKernelIdeal_ExpertsReferenceIdeal [hExpertsKernelIdeal : Cert.ExpertsKernelIdeal.Facts] [hExpertsReferenceIdeal : Cert.ExpertsReferenceIdeal.Facts] : Prop :=
  ∀ (m : (ℓ : Loc Cert.ExpertsKernelIdeal.nD Cert.ExpertsKernelIdeal.τ Cert.ExpertsKernelIdeal.sig) → Buf (Elt Ideal) ℓ) (g : Dev Cert.ExpertsKernelIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsKernelIdeal m →
    (∀ c : Dev Cert.ExpertsKernelIdeal.nD,
      m' ((c.tc : Thread Cert.ExpertsReferenceIdeal.nD Cert.ExpertsReferenceIdeal.τ).loc Cert.ExpertsReferenceIdeal.main_arg0) = m ((c.tc : Thread Cert.ExpertsKernelIdeal.nD Cert.ExpertsKernelIdeal.τ).loc Cert.ExpertsKernelIdeal.main_arg0)
      ∧ m' ((c.tc : Thread Cert.ExpertsReferenceIdeal.nD Cert.ExpertsReferenceIdeal.τ).loc Cert.ExpertsReferenceIdeal.main_arg1) = m ((c.tc : Thread Cert.ExpertsKernelIdeal.nD Cert.ExpertsKernelIdeal.τ).loc Cert.ExpertsKernelIdeal.main_arg1)
      ∧ m' ((c.tc : Thread Cert.ExpertsReferenceIdeal.nD Cert.ExpertsReferenceIdeal.τ).loc Cert.ExpertsReferenceIdeal.main_arg2) = m ((c.tc : Thread Cert.ExpertsKernelIdeal.nD Cert.ExpertsKernelIdeal.τ).loc Cert.ExpertsKernelIdeal.main_arg2)
      ∧ m' ((c.tc : Thread Cert.ExpertsReferenceIdeal.nD Cert.ExpertsReferenceIdeal.τ).loc Cert.ExpertsReferenceIdeal.main_arg3) = m ((c.tc : Thread Cert.ExpertsKernelIdeal.nD Cert.ExpertsKernelIdeal.τ).loc Cert.ExpertsKernelIdeal.main_arg3)) →
    ∃ (v0 : (c : Dev Cert.ExpertsKernelIdeal.nD) → Buf (Elt Ideal) ((c.tc : Thread Cert.ExpertsKernelIdeal.nD Cert.ExpertsKernelIdeal.τ).loc Cert.ExpertsKernelIdeal.main_v37)),
      θ_run (Cert.ExpertsKernelIdeal.defs (F := Ideal)) (onTc (τ := Cert.ExpertsKernelIdeal.τ) (Cert.ExpertsKernelIdeal.main (F := Ideal))) ⟨m, fun _ => 0, g⟩ (fun r => ∀ c : Dev Cert.ExpertsKernelIdeal.nD,
          r.2.mem ((c.tc : Thread Cert.ExpertsKernelIdeal.nD Cert.ExpertsKernelIdeal.τ).loc Cert.ExpertsKernelIdeal.main_v37) = v0 c
          ∧ r.2.mem ((c.tc : Thread Cert.ExpertsKernelIdeal.nD Cert.ExpertsKernelIdeal.τ).loc Cert.ExpertsKernelIdeal.main_arg0) = m ((c.tc : Thread Cert.ExpertsKernelIdeal.nD Cert.ExpertsKernelIdeal.τ).loc Cert.ExpertsKernelIdeal.main_arg0)
          ∧ r.2.mem ((c.tc : Thread Cert.ExpertsKernelIdeal.nD Cert.ExpertsKernelIdeal.τ).loc Cert.ExpertsKernelIdeal.main_arg1) = m ((c.tc : Thread Cert.ExpertsKernelIdeal.nD Cert.ExpertsKernelIdeal.τ).loc Cert.ExpertsKernelIdeal.main_arg1)
          ∧ r.2.mem ((c.tc : Thread Cert.ExpertsKernelIdeal.nD Cert.ExpertsKernelIdeal.τ).loc Cert.ExpertsKernelIdeal.main_arg2) = m ((c.tc : Thread Cert.ExpertsKernelIdeal.nD Cert.ExpertsKernelIdeal.τ).loc Cert.ExpertsKernelIdeal.main_arg2)
          ∧ r.2.mem ((c.tc : Thread Cert.ExpertsKernelIdeal.nD Cert.ExpertsKernelIdeal.τ).loc Cert.ExpertsKernelIdeal.main_arg3) = m ((c.tc : Thread Cert.ExpertsKernelIdeal.nD Cert.ExpertsKernelIdeal.τ).loc Cert.ExpertsKernelIdeal.main_arg3))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v86) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3))

def Claim : Prop :=
  ∃ (hKernel : Cert.Kernel.Facts) (hKernelIdeal : Cert.KernelIdeal.Facts) (hReferenceIdeal : Cert.ReferenceIdeal.Facts) (hQkvKernel : Cert.QkvKernel.Facts) (hQkvKernelIdeal : Cert.QkvKernelIdeal.Facts) (hQkvReferenceIdeal : Cert.QkvReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hBackKernel : Cert.BackKernel.Facts) (hBackKernelIdeal : Cert.BackKernelIdeal.Facts) (hBackReferenceIdeal : Cert.BackReferenceIdeal.Facts) (hExpertsKernel : Cert.ExpertsKernel.Facts) (hExpertsKernelIdeal : Cert.ExpertsKernelIdeal.Facts) (hExpertsReferenceIdeal : Cert.ExpertsReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_BackKernel (hBackKernel := hBackKernel)
    ∧ quiescent_BackKernelIdeal (hBackKernelIdeal := hBackKernelIdeal)
    ∧ quiescent_BackReferenceIdeal (hBackReferenceIdeal := hBackReferenceIdeal)
    ∧ quiescent_ExpertsKernel (hExpertsKernel := hExpertsKernel)
    ∧ quiescent_ExpertsKernelIdeal (hExpertsKernelIdeal := hExpertsKernelIdeal)
    ∧ quiescent_ExpertsReferenceIdeal (hExpertsReferenceIdeal := hExpertsReferenceIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_QkvKernel_QkvKernelIdeal
    ∧ algebraic_QkvKernelIdeal_QkvReferenceIdeal (hQkvKernelIdeal := hQkvKernelIdeal) (hQkvReferenceIdeal := hQkvReferenceIdeal)
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal (hInKernelIdeal := hInKernelIdeal) (hInReferenceIdeal := hInReferenceIdeal)
    ∧ preserves_BackKernel_BackKernelIdeal
    ∧ algebraic_BackKernelIdeal_BackReferenceIdeal (hBackKernelIdeal := hBackKernelIdeal) (hBackReferenceIdeal := hBackReferenceIdeal)
    ∧ preserves_ExpertsKernel_ExpertsKernelIdeal
    ∧ algebraic_ExpertsKernelIdeal_ExpertsReferenceIdeal (hExpertsKernelIdeal := hExpertsKernelIdeal) (hExpertsReferenceIdeal := hExpertsReferenceIdeal)
-- ==== Pre_finite_queries_and_keys.lean ====
abbrev S32768x6144 : Shape := ⟨2, ![32768, 6144]⟩
abbrev S16x2048 : Shape := ⟨2, ![16, 2048]⟩
abbrev S32768x4096 : Shape := ⟨2, ![32768, 4096]⟩
abbrev S_ : Shape := ⟨0, ![]⟩

class Facts : Prop where
  slices_S32768x6144_S32768x4096_0_0 : S32768x6144.Slices ![0, 0] S32768x4096
  bcast_S_S32768x4096 : S_.BroadcastsInDim S32768x4096 (![] : Fin 0 → Fin S32768x4096.rank)
  reducesTo_S32768x4096_S_d0_1 : S32768x4096.ReducesTo [0, 1] S_
  h_S_ : 0 < S_.numel

variable [Facts]

def fn {F : FTy → Type} [FloatOps F] (main_arg0 : FVec F S32768x6144 .f32) (main_arg1 : IVec S16x2048 32) : IVec S_ 1 :=
  let main_v0 : FVec F S32768x4096 .f32 := (extractStridedSlice S32768x4096 ![0, 0] · slices_S32768x6144_S32768x4096_0_0) main_arg0
  let main_v1 : FVec F S32768x4096 .f32 := Host.absf main_v0
  let main_cst : FVec F S_ .f32 := constant S_ .f32 0x7F800000#32
  let main_v2 : FVec F S32768x4096 .f32 := broadcastInDim S32768x4096 ![] bcast_S_S32768x4096 main_cst
  let main_v3 : IVec S32768x4096 1 := cmpf .olt main_v1 main_v2
  let main_c : IVec S_ 1 := constantI S_ 1 1#1
  let main_v4 : IVec S_ 1 := (fun x v => Host.reduce IntOp.andi x v reducesTo_S32768x4096_S_d0_1 h_S_) main_v3 main_c
  main_v4
-- ==== Kernel.lean ====
abbrev S32768x6144 : Shape := ⟨2, ![32768, 6144]⟩
abbrev S16x2048 : Shape := ⟨2, ![16, 2048]⟩
abbrev S16 : Shape := ⟨1, ![16]⟩
abbrev S_ : Shape := ⟨0, ![]⟩
abbrev S32768x1 : Shape := ⟨2, ![32768, 1]⟩
abbrev S1x16 : Shape := ⟨2, ![1, 16]⟩
abbrev S32768x16 : Shape := ⟨2, ![32768, 16]⟩
abbrev S32768x96 : Shape := ⟨2, ![32768, 96]⟩
abbrev S32768x128 : Shape := ⟨2, ![32768, 128]⟩
abbrev S32768x2048 : Shape := ⟨2, ![32768, 2048]⟩
abbrev S2048x256 : Shape := ⟨2, ![2048, 256]⟩
abbrev S2048x128 : Shape := ⟨2, ![2048, 128]⟩
abbrev S256x128 : Shape := ⟨2, ![256, 128]⟩
abbrev S128 : Shape := ⟨1, ![128]⟩
abbrev S1x128 : Shape := ⟨2, ![1, 128]⟩
abbrev S8x128 : Shape := ⟨2, ![8, 128]⟩
abbrev S128x2048 : Shape := ⟨2, ![128, 2048]⟩
abbrev S8x2048 : Shape := ⟨2, ![8, 2048]⟩
abbrev S2048 : Shape := ⟨1, ![2048]⟩
abbrev S1x2048 : Shape := ⟨2, ![1, 2048]⟩
abbrev S256x256 : Shape := ⟨2, ![256, 256]⟩
abbrev S128x256 : Shape := ⟨2, ![128, 256]⟩
abbrev S256 : Shape := ⟨1, ![256]⟩
abbrev S1x256 : Shape := ⟨2, ![1, 256]⟩
abbrev S512x128 : Shape := ⟨2, ![512, 128]⟩
abbrev S512x256 : Shape := ⟨2, ![512, 256]⟩
abbrev S128x512 : Shape := ⟨2, ![128, 512]⟩
abbrev S768x128 : Shape := ⟨2, ![768, 128]⟩
abbrev S768x256 : Shape := ⟨2, ![768, 256]⟩
abbrev S128x768 : Shape := ⟨2, ![128, 768]⟩
abbrev S1024x128 : Shape := ⟨2, ![1024, 128]⟩
abbrev S1024x256 : Shape := ⟨2, ![1024, 256]⟩
abbrev S128x1024 : Shape := ⟨2, ![128, 1024]⟩
abbrev S1280x128 : Shape := ⟨2, ![1280, 128]⟩
abbrev S1280x256 : Shape := ⟨2, ![1280, 256]⟩
abbrev S128x1280 : Shape := ⟨2, ![128, 1280]⟩
abbrev S1536x128 : Shape := ⟨2, ![1536, 128]⟩
abbrev S1536x256 : Shape := ⟨2, ![1536, 256]⟩
abbrev S128x1536 : Shape := ⟨2, ![128, 1536]⟩
abbrev S1792x128 : Shape := ⟨2, ![1792, 128]⟩
abbrev S1792x256 : Shape := ⟨2, ![1792, 256]⟩
abbrev S128x1792 : Shape := ⟨2, ![128, 1792]⟩

abbrev nBuf : Space → Nat
  | .hbm => 32
  | .vmem => 12
  | .smem => 0
  | _ => 0

abbrev bufTy : (tb : Table) → Fin (tcTables nBuf tb) → BufTy
  | .hbm, ⟨0, _⟩ => ⟨S32768x6144, .f32⟩
  | .hbm, ⟨1, _⟩ => ⟨S16x2048, .i32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16x2048, .f32⟩
  | .hbm, ⟨17, _⟩ => ⟨S32768x1, .f32⟩
  | .hbm, ⟨18, _⟩ => ⟨S1x16, .f32⟩
  | .hbm, ⟨19, _⟩ => ⟨S32768x16, .f32⟩
  | .hbm, ⟨20, _⟩ => ⟨S32768x16, .f32⟩
  | .hbm, ⟨21, _⟩ => ⟨S32768x16, .f32⟩
  | .hbm, ⟨22, _⟩ => ⟨S32768x16, .f32⟩
  | .hbm, ⟨23, _⟩ => ⟨S32768x16, .f32⟩
  | .hbm, ⟨24, _⟩ => ⟨S_, .f32⟩
  | .hbm, ⟨25, _⟩ => ⟨S32768x96, .f32⟩
  | .hbm, ⟨26, _⟩ => ⟨S32768x128, .f32⟩
  | .hbm, ⟨27, _⟩ => ⟨S32768x16, .f32⟩
  | .hbm, ⟨28, _⟩ => ⟨S_, .f32⟩
  | .hbm, ⟨29, _⟩ => ⟨S32768x96, .f32⟩
  | .hbm, ⟨30, _⟩ => ⟨S32768x128, .f32⟩
  | .hbm, ⟨31, _⟩ => ⟨S32768x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x256, .bf16⟩
  | .local _ .vmem, ⟨11, _⟩ => ⟨S2048x256, .bf16⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "gone" => some ⊥
  | "mask" => some ⊥
  | _ => none
-- ==== ReferenceIdeal.lean ====
abbrev S32768x6144 : Shape := ⟨2, ![32768, 6144]⟩
abbrev S16x2048 : Shape := ⟨2, ![16, 2048]⟩
abbrev S16 : Shape := ⟨1, ![16]⟩
abbrev S_ : Shape := ⟨0, ![]⟩
abbrev S16x2048x1 : Shape := ⟨3, ![16, 2048, 1]⟩
abbrev S1x1x16 : Shape := ⟨3, ![1, 1, 16]⟩
abbrev S16x2048x16 : Shape := ⟨3, ![16, 2048, 16]⟩
abbrev S16x2048x1x16 : Shape := ⟨4, ![16, 2048, 1, 16]⟩
abbrev S16x2048x48x128 : Shape := ⟨4, ![16, 2048, 48, 128]⟩
abbrev S16x2048x16x128 : Shape := ⟨4, ![16, 2048, 16, 128]⟩
abbrev S16x2048x16x32 : Shape := ⟨4, ![16, 2048, 16, 32]⟩
abbrev S16x2048x16x16 : Shape := ⟨4, ![16, 2048, 16, 16]⟩
abbrev S16x2048x16x96 : Shape := ⟨4, ![16, 2048, 16, 96]⟩
abbrev S16x16x2048x128 : Shape := ⟨4, ![16, 16, 2048, 128]⟩
abbrev S256x2048x128 : Shape := ⟨3, ![256, 2048, 128]⟩
abbrev S256x8x256x128 : Shape := ⟨4, ![256, 8, 256, 128]⟩
abbrev S256x8x128 : Shape := ⟨3, ![256, 8, 128]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S256x2048x8 : Shape := ⟨3, ![256, 2048, 8]⟩
abbrev S256x2048x3 : Shape := ⟨3, ![256, 2048, 3]⟩
abbrev S256x2048x3x1 : Shape := ⟨4, ![256, 2048, 3, 1]⟩
abbrev S1x1x1x8 : Shape := ⟨4, ![1, 1, 1, 8]⟩
abbrev S256x2048x3x8 : Shape := ⟨4, ![256, 2048, 3, 8]⟩
abbrev S1x2048x8 : Shape := ⟨3, ![1, 2048, 8]⟩
abbrev S1x2048 : Shape := ⟨2, ![1, 2048]⟩
abbrev S2048x2048 : Shape := ⟨2, ![2048, 2048]⟩
abbrev S256x2048x8x256 : Shape := ⟨4, ![256, 2048, 8, 256]⟩
abbrev S256x2048x2048 : Shape := ⟨3, ![256, 2048, 2048]⟩
abbrev S1x2048x2048 : Shape := ⟨3, ![1, 2048, 2048]⟩
abbrev S256x2048 : Shape := ⟨2, ![256, 2048]⟩
abbrev S256x2048x1 : Shape := ⟨3, ![256, 2048, 1]⟩
abbrev S32768x2048 : Shape := ⟨2, ![32768, 2048]⟩

abbrev nBuf : Space → Nat
  | .hbm => 159
  | .vmem => 0
  | .smem => 0
  | _ => 0

abbrev hbmTy0_0 (i : Nat) : BufTy := match i % 128 with
  | 0 => ⟨S32768x6144, .f32⟩
  | 1 => ⟨S16x2048, .i32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S16x2048, .f32⟩
  | 17 => ⟨S16x2048x1, .f32⟩
  | 18 => ⟨S1x1x16, .f32⟩
  | 19 => ⟨S16x2048x16, .f32⟩
  | 20 => ⟨S16x2048x16, .f32⟩
  | 21 => ⟨S16x2048x16, .f32⟩
  | 22 => ⟨S16x2048x16, .f32⟩
  | 23 => ⟨S16x2048x1x16, .f32⟩
  | 24 => ⟨S16x2048x16, .f32⟩
  | 25 => ⟨S16x2048x1x16, .f32⟩
  | 26 => ⟨S16x2048x48x128, .f32⟩
  | 27 => ⟨S16x2048x16x128, .f32⟩
  | 28 => ⟨S16x2048x16x128, .f32⟩
  | 29 => ⟨S16x2048x16x128, .f32⟩
  | 30 => ⟨S16x2048x16x32, .f32⟩
  | 31 => ⟨S16x2048x16x16, .f32⟩
  | 32 => ⟨S16x2048x16x16, .f32⟩
  | 33 => ⟨S16x2048x16x16, .f32⟩
  | 34 => ⟨S16x2048x16x16, .f32⟩
  | 35 => ⟨S16x2048x16x16, .f32⟩
  | 36 => ⟨S16x2048x16x16, .f32⟩
  | 37 => ⟨S16x2048x16x16, .f32⟩
  | 38 => ⟨S16x2048x16x16, .f32⟩
  | 39 => ⟨S16x2048x16x16, .f32⟩
  | 40 => ⟨S16x2048x16x16, .f32⟩
  | 41 => ⟨S16x2048x16x16, .f32⟩
  | 42 => ⟨S16x2048x16x16, .f32⟩
  | 43 => ⟨S16x2048x16x32, .f32⟩
  | 44 => ⟨S16x2048x16x96, .f32⟩
  | 45 => ⟨S16x2048x16x128, .f32⟩
  | 46 => ⟨S16x2048x16x32, .f32⟩
  | 47 => ⟨S16x2048x16x16, .f32⟩
  | 48 => ⟨S16x2048x16x16, .f32⟩
  | 49 => ⟨S16x2048x16x16, .f32⟩
  | 50 => ⟨S16x2048x16x16, .f32⟩
  | 51 => ⟨S16x2048x16x16, .f32⟩
  | 52 => ⟨S16x2048x16x16, .f32⟩
  | 53 => ⟨S16x2048x16x16, .f32⟩
  | 54 => ⟨S16x2048x16x16, .f32⟩
  | 55 => ⟨S16x2048x16x16, .f32⟩
  | 56 => ⟨S16x2048x16x16, .f32⟩
  | 57 => ⟨S16x2048x16x16, .f32⟩
  | 58 => ⟨S16x2048x16x16, .f32⟩
  | 59 => ⟨S16x2048x16x32, .f32⟩
  | 60 => ⟨S16x2048x16x96, .f32⟩
  | 61 => ⟨S16x2048x16x128, .f32⟩
  | 62 => ⟨S16x16x2048x128, .f32⟩
  | 63 => ⟨S256x2048x128, .f32⟩
  | 64 => ⟨S16x16x2048x128, .f32⟩
  | 65 => ⟨S256x2048x128, .f32⟩
  | 66 => ⟨S16x16x2048x128, .f32⟩
  | 67 => ⟨S256x2048x128, .f32⟩
  | 68 => ⟨S256x8x256x128, .f32⟩
  | 69 => ⟨S_, .f32⟩
  | 70 => ⟨S256x8x128, .f32⟩
  | 71 => ⟨S_, .f32⟩
  | 72 => ⟨S256x8x128, .f32⟩
  | 73 => ⟨S256x8x128, .f32⟩
  | 74 => ⟨S2048, .i32⟩
  | 75 => ⟨S_, .i32⟩
  | 76 => ⟨S_, .i32⟩
  | 77 => ⟨S2048, .i32⟩
  | 78 => ⟨S2048, .i32⟩
  | 79 => ⟨S2048, .i32⟩
  | 80 => ⟨S_, .i32⟩
  | 81 => ⟨S2048, .i32⟩
  | 82 => ⟨S2048, .i1⟩
  | 83 => ⟨S2048, .i32⟩
  | 84 => ⟨S2048, .i32⟩
  | 85 => ⟨S_, .i32⟩
  | 86 => ⟨S2048, .i32⟩
  | 87 => ⟨S2048, .i1⟩
  | 88 => ⟨S2048, .i1⟩
  | 89 => ⟨S_, .i32⟩
  | 90 => ⟨S2048, .i32⟩
  | 91 => ⟨S2048, .i32⟩
  | 92 => ⟨S2048, .i32⟩
  | 93 => ⟨S8, .i32⟩
  | 94 => ⟨S1x8, .i32⟩
  | 95 => ⟨S2048x1, .i32⟩
  | 96 => ⟨S2048x8, .i32⟩
  | 97 => ⟨S2048x8, .i32⟩
  | 98 => ⟨S2048x8, .i1⟩
  | 99 => ⟨S256x2048x8, .f32⟩
  | 100 => ⟨S_, .f32⟩
  | 101 => ⟨S_, .f32⟩
  | 102 => ⟨S256x2048x8, .i1⟩
  | 103 => ⟨S256x2048x8, .f32⟩
  | 104 => ⟨S256x2048x8, .f32⟩
  | 105 => ⟨S256x2048x3, .f32⟩
  | 106 => ⟨S256x2048x3, .i32⟩
  | 107 => ⟨S256x2048x3x1, .i32⟩
  | 108 => ⟨S1x1x1x8, .i32⟩
  | 109 => ⟨S256x2048x3x8, .i32⟩
  | 110 => ⟨S256x2048x3x8, .i32⟩
  | 111 => ⟨S256x2048x3x8, .i1⟩
  | 112 => ⟨S_, .i1⟩
  | 113 => ⟨S256x2048x8, .i1⟩
  | 114 => ⟨S1x2048x8, .i1⟩
  | 115 => ⟨S256x2048x8, .i1⟩
  | 116 => ⟨S256x2048x8, .i1⟩
  | 117 => ⟨S2048, .i32⟩
  | 118 => ⟨S1x2048, .i32⟩
  | 119 => ⟨S2048, .i32⟩
  | 120 => ⟨S2048x1, .i32⟩
  | 121 => ⟨S2048x2048, .i32⟩
  | 122 => ⟨S2048x2048, .i32⟩
  | 123 => ⟨S2048x2048, .i1⟩
  | 124 => ⟨S1x2048, .i32⟩
  | 125 => ⟨S2048x1, .i32⟩
  | 126 => ⟨S2048x2048, .i32⟩
  | 127 => ⟨S2048x2048, .i32⟩
  | _ => ⟨S32768x6144, .f32⟩

abbrev hbmTy0_1 (i : Nat) : BufTy := match i % 128 with
  | 0 => ⟨S2048x2048, .i1⟩
  | 1 => ⟨S2048x2048, .i1⟩
  | 2 => ⟨S256x2048x8x256, .i1⟩
  | 3 => ⟨S256x2048x2048, .i1⟩
  | 4 => ⟨S1x2048x2048, .i1⟩
  | 5 => ⟨S256x2048x2048, .i1⟩
  | 6 => ⟨S256x2048x2048, .i1⟩
  | 7 => ⟨S256x2048x2048, .f32⟩
  | 8 => ⟨S_, .f32⟩
  | 9 => ⟨S256x2048x2048, .f32⟩
  | 10 => ⟨S256x2048x2048, .f32⟩
  | 11 => ⟨S_, .f32⟩
  | 12 => ⟨S_, .f32⟩
  | 13 => ⟨S256x2048x2048, .f32⟩
  | 14 => ⟨S256x2048x2048, .f32⟩
  | 15 => ⟨S_, .f32⟩
  | 16 => ⟨S256x2048, .f32⟩
  | 17 => ⟨S256x2048x1, .f32⟩
  | 18 => ⟨S256x2048x2048, .f32⟩
  | 19 => ⟨S256x2048x2048, .f32⟩
  | 20 => ⟨S256x2048x2048, .f32⟩
  | 21 => ⟨S256x2048x128, .f32⟩
  | 22 => ⟨S_, .f32⟩
  | 23 => ⟨S256x2048, .f32⟩
  | 24 => ⟨S256x2048x1, .f32⟩
  | 25 => ⟨S256x2048x128, .f32⟩
  | 26 => ⟨S256x2048x128, .f32⟩
  | 27 => ⟨S16x16x2048x128, .f32⟩
  | 28 => ⟨S16x2048x16x128, .f32⟩
  | 29 => ⟨S32768x2048, .f32⟩
  | 30 => ⟨S32768x2048, .bf16⟩
  | _ => ⟨S32768x6144, .f32⟩

abbrev hbmTy (i : Nat) : BufTy := match i / 128 with
  | 0 => hbmTy0_0 i
  | 1 => hbmTy0_1 i
  | _ => ⟨S32768x6144, .f32⟩

abbrev bufTy : (tb : Table) → Fin (tcTables nBuf tb) → BufTy
  | .hbm, ⟨i, _⟩ => hbmTy i
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_cst_3 : Ref sig .tc := ⟨.hbm, 69, rfl⟩
abbrev main_v63 : Ref sig .tc := ⟨.hbm, 70, rfl⟩
abbrev main_cst_4 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_c : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_c : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_c_0 : Ref sig .tc := ⟨.hbm, 89, rfl⟩
abbrev main_call0_v12 : Ref sig .tc := ⟨.hbm, 90, rfl⟩
abbrev main_call0_v13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_5 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v75 : Ref sig .tc := ⟨.hbm, 104, rfl⟩
abbrev main_values : Ref sig .tc := ⟨.hbm, 105, rfl⟩
abbrev main_indices : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_6 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_7 : Ref sig .tc := ⟨.hbm, 136, rfl⟩
abbrev main_v104 : Ref sig .tc := ⟨.hbm, 137, rfl⟩
abbrev main_v105 : Ref sig .tc := ⟨.hbm, 138, rfl⟩
abbrev main_cst_8 : Ref sig .tc := ⟨.hbm, 139, rfl⟩
abbrev main_call2_v0 : Ref sig .tc := ⟨.hbm, 140, rfl⟩
abbrev main_call2_v1 : Ref sig .tc := ⟨.hbm, 141, rfl⟩
abbrev main_v106 : Ref sig .tc := ⟨.hbm, 142, rfl⟩
abbrev main_cst_9 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_10 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩

abbrev nD : Nat := 1
abbrev τ : Topo := Topo.v7x

variable {F : FTy → Type} [FloatOps F]
-- ==== QkvKernel.lean ====
abbrev S32768x2048 : Shape := ⟨2, ![32768, 2048]⟩
abbrev S2048x6144 : Shape := ⟨2, ![2048, 6144]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .f32⟩
  | .hbm, ⟨2, _⟩ => ⟨S2048x6144, .bf16⟩
  | .hbm, ⟨3, _⟩ => ⟨S32768x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvReferenceIdeal.lean ====
abbrev S32768x2048 : Shape := ⟨2, ![32768, 2048]⟩
abbrev S2048x6144 : Shape := ⟨2, ![2048, 6144]⟩
abbrev S32768x6144 : Shape := ⟨2, ![32768, 6144]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .f32⟩
  | .hbm, ⟨2, _⟩ => ⟨S32768x2048, .f32⟩
  | .hbm, ⟨3, _⟩ => ⟨S32768x6144, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutKernel.lean ====
abbrev S32768x2048 : Shape := ⟨2, ![32768, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S2048x2048, .bf16⟩
  | .hbm, ⟨3, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutReferenceIdeal.lean ====
abbrev S32768x2048 : Shape := ⟨2, ![32768, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InKernel.lean ====
abbrev S32768x2048 : Shape := ⟨2, ![32768, 2048]⟩
abbrev S2048x12352 : Shape := ⟨2, ![2048, 12352]⟩
abbrev S2048x12288 : Shape := ⟨2, ![2048, 12288]⟩
abbrev S32768x12288 : Shape := ⟨2, ![32768, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x12352, .f32⟩
  | .hbm, ⟨2, _⟩ => ⟨S2048x12288, .f32⟩
  | .hbm, ⟨3, _⟩ => ⟨S2048x12288, .bf16⟩
  | .hbm, ⟨4, _⟩ => ⟨S32768x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S32768x2048 : Shape := ⟨2, ![32768, 2048]⟩
abbrev S2048x12352 : Shape := ⟨2, ![2048, 12352]⟩
abbrev S32768x12352 : Shape := ⟨2, ![32768, 12352]⟩
abbrev S32768x12288 : Shape := ⟨2, ![32768, 12288]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x12352, .f32⟩
  | .hbm, ⟨2, _⟩ => ⟨S32768x2048, .f32⟩
  | .hbm, ⟨3, _⟩ => ⟨S32768x12352, .f32⟩
  | .hbm, ⟨4, _⟩ => ⟨S32768x12288, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BackKernel.lean ====
abbrev S32768x4096 : Shape := ⟨2, ![32768, 4096]⟩
abbrev S4096x2048 : Shape := ⟨2, ![4096, 2048]⟩
abbrev S32768x2048 : Shape := ⟨2, ![32768, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .f32⟩
  | .hbm, ⟨2, _⟩ => ⟨S4096x2048, .bf16⟩
  | .hbm, ⟨3, _⟩ => ⟨S32768x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BackReferenceIdeal.lean ====
abbrev S32768x4096 : Shape := ⟨2, ![32768, 4096]⟩
abbrev S4096x2048 : Shape := ⟨2, ![4096, 2048]⟩
abbrev S32768x2048 : Shape := ⟨2, ![32768, 2048]⟩

abbrev nBuf : Space → Nat
  | .hbm => 4
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .f32⟩
  | .hbm, ⟨2, _⟩ => ⟨S32768x4096, .f32⟩
  | .hbm, ⟨3, _⟩ => ⟨S32768x2048, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ExpertsKernel.lean ====
abbrev S1179648x128 : Shape := ⟨2, ![1179648, 128]⟩
abbrev S32768x4 : Shape := ⟨2, ![32768, 4]⟩
abbrev S2x32x2048x4096 : Shape := ⟨4, ![2, 32, 2048, 4096]⟩
abbrev S2x32x4096 : Shape := ⟨3, ![2, 32, 4096]⟩
abbrev S131072 : Shape := ⟨1, ![131072]⟩
abbrev S131072x1 : Shape := ⟨2, ![131072, 1]⟩
abbrev S32 : Shape := ⟨1, ![32]⟩
abbrev S1x32 : Shape := ⟨2, ![1, 32]⟩
abbrev S131072x32 : Shape := ⟨2, ![131072, 32]⟩
abbrev S_ : Shape := ⟨0, ![]⟩
abbrev S288 : Shape := ⟨1, ![288]⟩
abbrev S288x1 : Shape := ⟨2, ![288, 1]⟩
abbrev S288x32 : Shape := ⟨2, ![288, 32]⟩
abbrev S1 : Shape := ⟨1, ![1]⟩
abbrev S2x32x1x4096 : Shape := ⟨4, ![2, 32, 1, 4096]⟩
abbrev S147456x2048 : Shape := ⟨2, ![147456, 2048]⟩
abbrev S4096x128 : Shape := ⟨2, ![4096, 128]⟩
abbrev S1x1x2048x1024 : Shape := ⟨4, ![1, 1, 2048, 1024]⟩
abbrev S1x1x1x1024 : Shape := ⟨4, ![1, 1, 1, 1024]⟩
abbrev S512x1024 : Shape := ⟨2, ![512, 1024]⟩
abbrev S512x128 : Shape := ⟨2, ![512, 128]⟩
abbrev S512x2048 : Shape := ⟨2, ![512, 2048]⟩
abbrev S2048x1024 : Shape := ⟨2, ![2048, 1024]⟩
abbrev S1x1024 : Shape := ⟨2, ![1, 1024]⟩

abbrev nBuf : Space → Nat
  | .hbm => 79
  | .vmem => 12
  | .smem => 2
  | _ => 0

abbrev bufTy : (tb : Table) → Fin (tcTables nBuf tb) → BufTy
  | .hbm, ⟨0, _⟩ => ⟨S1179648x128, .i32⟩
  | .hbm, ⟨1, _⟩ => ⟨S32768x4, .i32⟩
  | .hbm, ⟨2, _⟩ => ⟨S2x32x2048x4096, .f32⟩
  | .hbm, ⟨3, _⟩ => ⟨S2x32x4096, .f32⟩
  | .hbm, ⟨4, _⟩ => ⟨S131072, .i32⟩
  | .hbm, ⟨5, _⟩ => ⟨S131072x1, .i32⟩
  | .hbm, ⟨6, _⟩ => ⟨S32, .i32⟩
  | .hbm, ⟨7, _⟩ => ⟨S1x32, .i32⟩
  | .hbm, ⟨8, _⟩ => ⟨S131072x32, .i32⟩
  | .hbm, ⟨9, _⟩ => ⟨S131072x32, .i32⟩
  | .hbm, ⟨10, _⟩ => ⟨S131072x32, .i1⟩
  | .hbm, ⟨11, _⟩ => ⟨S131072x32, .i32⟩
  | .hbm, ⟨12, _⟩ => ⟨S_, .i32⟩
  | .hbm, ⟨13, _⟩ => ⟨S_, .i32⟩
  | .hbm, ⟨14, _⟩ => ⟨S131072x32, .i32⟩
  | .hbm, ⟨15, _⟩ => ⟨S1x32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i32⟩
  | .hbm, ⟨23, _⟩ => ⟨S_, .i32⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S32, .i1⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S32, .i32⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S_, .i32⟩
  | .hbm, ⟨45, _⟩ => ⟨S_, .i32⟩
  | .hbm, ⟨46, _⟩ => ⟨S32, .i32⟩
  | .hbm, ⟨47, _⟩ => ⟨S288, .i32⟩
  | .hbm, ⟨48, _⟩ => ⟨S_, .i32⟩
  | .hbm, ⟨49, _⟩ => ⟨S288, .i32⟩
  | .hbm, ⟨50, _⟩ => ⟨S288, .i32⟩
  | .hbm, ⟨51, _⟩ => ⟨S1x32, .i32⟩
  | .hbm, ⟨52, _⟩ => ⟨S288x1, .i32⟩
  | .hbm, ⟨53, _⟩ => ⟨S288x32, .i32⟩
  | .hbm, ⟨54, _⟩ => ⟨S288x32, .i32⟩
  | .hbm, ⟨55, _⟩ => ⟨S288x32, .i1⟩
  | .hbm, ⟨56, _⟩ => ⟨S288x32, .i32⟩
  | .hbm, ⟨57, _⟩ => ⟨S_, .i32⟩
  | .hbm, ⟨58, _⟩ => ⟨S288, .i32⟩
  | .hbm, ⟨59, _⟩ => ⟨S_, .i32⟩
  | .hbm, ⟨60, _⟩ => ⟨S288, .i32⟩
  | .hbm, ⟨61, _⟩ => ⟨S1, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S2x32x2048x4096, .bf16⟩
  | .hbm, ⟨77, _⟩ => ⟨S2x32x1x4096, .f32⟩
  | .hbm, ⟨78, _⟩ => ⟨S147456x2048, .bf16⟩
  | .local _ .vmem, ⟨0, _⟩ => ⟨S4096x128, .i32⟩
  | .local _ .vmem, ⟨1, _⟩ => ⟨S4096x128, .i32⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x1x2048x1024, .bf16⟩
  | .local _ .vmem, ⟨5, _⟩ => ⟨S1x1x2048x1024, .bf16⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .smem, ⟨0, _⟩ => ⟨S288, .i32⟩
  | .local _ .smem, ⟨1, _⟩ => ⟨S1, .i32⟩
  | _, _ => ⟨S1179648x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_call2_call0_c : Ref sig .tc := ⟨.hbm, 44, rfl⟩
abbrev main_call2_call0_v0 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_4 : Ref sig .tc := ⟨.hbm, 57, rfl⟩
abbrev main_v28 : Ref sig .tc := ⟨.hbm, 58, rfl⟩
abbrev main_c_5 : Ref sig .tc := ⟨.hbm, 59, rfl⟩
abbrev main_v29 : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c : Ref sig .tc := ⟨.hbm, 70, rfl⟩
abbrev main_call3_v6 : Ref sig .tc := ⟨.hbm, 71, rfl⟩
abbrev main_call3_v7 : Ref sig .tc := ⟨.hbm, 72, rfl⟩
abbrev main_call3_c_0 : Ref sig .tc := ⟨.hbm, 73, rfl⟩
abbrev main_call3_v8 : Ref sig .tc := ⟨.hbm, 74, rfl⟩
abbrev main_v33 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v30 : Ref sig .tc := ⟨.smem, 0, rfl⟩
abbrev main_v34 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 288], ![false, false]⟩

abbrev pre0 : Pipeline.Prefetch sig := ⟨2, ![main_v30.idx, main_v34.idx], fun | 0 => main_v30.names | 1 => main_v34.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ExpertsReferenceIdeal.lean ====
abbrev S1179648x128 : Shape := ⟨2, ![1179648, 128]⟩
abbrev S32768x4 : Shape := ⟨2, ![32768, 4]⟩
abbrev S2x32x2048x4096 : Shape := ⟨4, ![2, 32, 2048, 4096]⟩
abbrev S2x32x4096 : Shape := ⟨3, ![2, 32, 4096]⟩
abbrev S147456x1024 : Shape := ⟨2, ![147456, 1024]⟩
abbrev S_ : Shape := ⟨0, ![]⟩
abbrev S147456x2048 : Shape := ⟨2, ![147456, 2048]⟩
abbrev S288x512x2048 : Shape := ⟨3, ![288, 512, 2048]⟩
abbrev S131072 : Shape := ⟨1, ![131072]⟩
abbrev S131072x1 : Shape := ⟨2, ![131072, 1]⟩
abbrev S32 : Shape := ⟨1, ![32]⟩
abbrev S1x32 : Shape := ⟨2, ![1, 32]⟩
abbrev S131072x32 : Shape := ⟨2, ![131072, 32]⟩
abbrev S288 : Shape := ⟨1, ![288]⟩
abbrev S288x1 : Shape := ⟨2, ![288, 1]⟩
abbrev S288x32 : Shape := ⟨2, ![288, 32]⟩
abbrev S1 : Shape := ⟨1, ![1]⟩
abbrev S1x32x2048x4096 : Shape := ⟨4, ![1, 32, 2048, 4096]⟩
abbrev S32x2048x4096 : Shape := ⟨3, ![32, 2048, 4096]⟩
abbrev S288x2048x4096 : Shape := ⟨3, ![288, 2048, 4096]⟩
abbrev S288x512x4096 : Shape := ⟨3, ![288, 512, 4096]⟩
abbrev S1x32x4096 : Shape := ⟨3, ![1, 32, 4096]⟩
abbrev S32x4096 : Shape := ⟨2, ![32, 4096]⟩
abbrev S288x4096 : Shape := ⟨2, ![288, 4096]⟩
abbrev S288x1x4096 : Shape := ⟨3, ![288, 1, 4096]⟩
abbrev S288x1x1 : Shape := ⟨3, ![288, 1, 1]⟩

abbrev nBuf : Space → Nat
  | .hbm => 151
  | .vmem => 0
  | .smem => 0
  | _ => 0

abbrev hbmTy0_0 (i : Nat) : BufTy := match i % 128 with
  | 0 => ⟨S1179648x128, .i32⟩
  | 1 => ⟨S32768x4, .i32⟩
  | 2 => ⟨S2x32x2048x4096, .f32⟩
  | 3 => ⟨S2x32x4096, .f32⟩
  | 4 => ⟨S147456x1024, .i32⟩
  | 5 => ⟨S_, .i32⟩
  | 6 => ⟨S147456x1024, .i32⟩
  | 7 => ⟨S147456x1024, .i32⟩
  | 8 => ⟨S147456x1024, .f32⟩
  | 9 => ⟨S_, .i32⟩
  | 10 => ⟨S147456x1024, .i32⟩
  | 11 => ⟨S147456x1024, .i32⟩
  | 12 => ⟨S147456x1024, .f32⟩
  | 13 => ⟨S147456x2048, .f32⟩
  | 14 => ⟨S288x512x2048, .f32⟩
  | 15 => ⟨S131072, .i32⟩
  | 16 => ⟨S131072x1, .i32⟩
  | 17 => ⟨S32, .i32⟩
  | 18 => ⟨S1x32, .i32⟩
  | 19 => ⟨S131072x32, .i32⟩
  | 20 => ⟨S131072x32, .i32⟩
  | 21 => ⟨S131072x32, .i1⟩
  | 22 => ⟨S131072x32, .i32⟩
  | 23 => ⟨S_, .i32⟩
  | 24 => ⟨S32, .i32⟩
  | 25 => ⟨S_, .i32⟩
  | 26 => ⟨S32, .i32⟩
  | 27 => ⟨S32, .i32⟩
  | 28 => ⟨S_, .i32⟩
  | 29 => ⟨S32, .i32⟩
  | 30 => ⟨S32, .i32⟩
  | 31 => ⟨S_, .i32⟩
  | 32 => ⟨S_, .i32⟩
  | 33 => ⟨S32, .i32⟩
  | 34 => ⟨S32, .i32⟩
  | 35 => ⟨S32, .i32⟩
  | 36 => ⟨S_, .i32⟩
  | 37 => ⟨S32, .i32⟩
  | 38 => ⟨S32, .i1⟩
  | 39 => ⟨S32, .i32⟩
  | 40 => ⟨S32, .i32⟩
  | 41 => ⟨S_, .i32⟩
  | 42 => ⟨S32, .i32⟩
  | 43 => ⟨S32, .i1⟩
  | 44 => ⟨S32, .i1⟩
  | 45 => ⟨S_, .i32⟩
  | 46 => ⟨S32, .i32⟩
  | 47 => ⟨S32, .i32⟩
  | 48 => ⟨S32, .i32⟩
  | 49 => ⟨S_, .i32⟩
  | 50 => ⟨S32, .i32⟩
  | 51 => ⟨S32, .i32⟩
  | 52 => ⟨S_, .i32⟩
  | 53 => ⟨S_, .i32⟩
  | 54 => ⟨S32, .i32⟩
  | 55 => ⟨S288, .i32⟩
  | 56 => ⟨S_, .i32⟩
  | 57 => ⟨S288, .i32⟩
  | 58 => ⟨S288, .i32⟩
  | 59 => ⟨S288x1, .i32⟩
  | 60 => ⟨S1x32, .i32⟩
  | 61 => ⟨S288x32, .i32⟩
  | 62 => ⟨S288x32, .i32⟩
  | 63 => ⟨S288x32, .i1⟩
  | 64 => ⟨S288x32, .i32⟩
  | 65 => ⟨S_, .i32⟩
  | 66 => ⟨S288, .i32⟩
  | 67 => ⟨S_, .i32⟩
  | 68 => ⟨S288, .i32⟩
  | 69 => ⟨S288, .i32⟩
  | 70 => ⟨S1, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i1⟩
  | 81 => ⟨S_, .i1⟩
  | 82 => ⟨S_, .i32⟩
  | 83 => ⟨S_, .i32⟩
  | 84 => ⟨S_, .i32⟩
  | 85 => ⟨S1x32x2048x4096, .f32⟩
  | 86 => ⟨S32x2048x4096, .f32⟩
  | 87 => ⟨S_, .i32⟩
  | 88 => ⟨S288, .i32⟩
  | 89 => ⟨S288, .i1⟩
  | 90 => ⟨S_, .i32⟩
  | 91 => ⟨S288, .i32⟩
  | 92 => ⟨S288, .i32⟩
  | 93 => ⟨S288, .i32⟩
  | 94 => ⟨S288x1, .i32⟩
  | 95 => ⟨S288x2048x4096, .f32⟩
  | 96 => ⟨S288x512x4096, .f32⟩
  | 97 => ⟨S1x32x4096, .f32⟩
  | 98 => ⟨S32x4096, .f32⟩
  | 99 => ⟨S_, .i32⟩
  | 100 => ⟨S288, .i32⟩
  | 101 => ⟨S288, .i1⟩
  | 102 => ⟨S_, .i32⟩
  | 103 => ⟨S288, .i32⟩
  | 104 => ⟨S288, .i32⟩
  | 105 => ⟨S288, .i32⟩
  | 106 => ⟨S288x1, .i32⟩
  | 107 => ⟨S288x4096, .f32⟩
  | 108 => ⟨S288x1x4096, .f32⟩
  | 109 => ⟨S288x512x4096, .f32⟩
  | 110 => ⟨S288x512x4096, .f32⟩
  | 111 => ⟨S288, .i32⟩
  | 112 => ⟨S288, .i32⟩
  | 113 => ⟨S288, .i1⟩
  | 114 => ⟨S288x1x1, .i1⟩
  | 115 => ⟨S288x512x2048, .f32⟩
  | 116 => ⟨S288x512x2048, .f32⟩
  | 117 => ⟨S_, .f32⟩
  | 118 => ⟨S288x512x2048, .f32⟩
  | 119 => ⟨S288x512x2048, .f32⟩
  | 120 => ⟨S_, .f32⟩
  | 121 => ⟨S_, .f32⟩
  | 122 => ⟨S_, .f32⟩
  | 123 => ⟨S288x512x2048, .f32⟩
  | 124 => ⟨S288x512x2048, .f32⟩
  | 125 => ⟨S_, .f32⟩
  | 126 => ⟨S288x512x2048, .f32⟩
  | 127 => ⟨S288x512x2048, .f32⟩
  | _ => ⟨S1179648x128, .i32⟩

abbrev hbmTy0_1 (i : Nat) : BufTy := match i % 128 with
  | 0 => ⟨S_, .f32⟩
  | 1 => ⟨S288x512x2048, .f32⟩
  | 2 => ⟨S288x512x2048, .f32⟩
  | 3 => ⟨S288x512x2048, .f32⟩
  | 4 => ⟨S288x512x2048, .f32⟩
  | 5 => ⟨S_, .f32⟩
  | 6 => ⟨S288x512x2048, .f32⟩
  | 7 => ⟨S288x512x2048, .f32⟩
  | 8 => ⟨S_, .f32⟩
  | 9 => ⟨S288x512x2048, .f32⟩
  | 10 => ⟨S288x512x2048, .f32⟩
  | 11 => ⟨S288x512x2048, .f32⟩
  | 12 => ⟨S_, .f32⟩
  | 13 => ⟨S288x512x2048, .f32⟩
  | 14 => ⟨S288x512x2048, .f32⟩
  | 15 => ⟨S288x512x2048, .f32⟩
  | 16 => ⟨S_, .f32⟩
  | 17 => ⟨S_, .f32⟩
  | 18 => ⟨S288x512x2048, .i1⟩
  | 19 => ⟨S288x512x2048, .f32⟩
  | 20 => ⟨S288x512x2048, .f32⟩
  | 21 => ⟨S147456x2048, .f32⟩
  | 22 => ⟨S147456x2048, .bf16⟩
  | _ => ⟨S1179648x128, .i32⟩

abbrev hbmTy (i : Nat) : BufTy := match i / 128 with
  | 0 => hbmTy0_0 i
  | 1 => hbmTy0_1 i
  | _ => ⟨S1179648x128, .i32⟩

abbrev bufTy : (tb : Table) → Fin (tcTables nBuf tb) → BufTy
  | .hbm, ⟨i, _⟩ => hbmTy i
  | _, _ => ⟨S1179648x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v22 : Ref sig .tc := ⟨.hbm, 48, rfl⟩
abbrev main_c_5 : Ref sig .tc := ⟨.hbm, 49, rfl⟩
abbrev main_v23 : Ref sig .tc := ⟨.hbm, 50, rfl⟩
abbrev main_v24 : Ref sig .tc := ⟨.hbm, 51, rfl⟩
abbrev main_call1_call0_c : Ref sig .tc := ⟨.hbm, 52, rfl⟩
abbrev main_call1_call0_v0 : Ref sig .tc := ⟨.hbm, 53, rfl⟩
abbrev main_v25 : Ref sig .tc := ⟨.hbm, 54, rfl⟩
abbrev main_v26 : Ref sig .tc := ⟨.hbm, 55, rfl⟩
abbrev main_c_6 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_c_8 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_9 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c : Ref sig .tc := ⟨.hbm, 79, rfl⟩
abbrev main_call2_v6 : Ref sig .tc := ⟨.hbm, 80, rfl⟩
abbrev main_call2_v7 : Ref sig .tc := ⟨.hbm, 81, rfl⟩
abbrev main_call2_c_0 : Ref sig .tc := ⟨.hbm, 82, rfl⟩
abbrev main_call2_v8 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_c_10 : Ref sig .tc := ⟨.hbm, 87, rfl⟩
abbrev main_v43 : Ref sig .tc := ⟨.hbm, 88, rfl⟩
abbrev main_v44 : Ref sig .tc := ⟨.hbm, 89, rfl⟩
abbrev main_c_11 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_c_12 : Ref sig .tc := ⟨.hbm, 99, rfl⟩
abbrev main_v53 : Ref sig .tc := ⟨.hbm, 100, rfl⟩
abbrev main_v54 : Ref sig .tc := ⟨.hbm, 101, rfl⟩
abbrev main_c_13 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst : Ref sig .tc := ⟨.hbm, 117, rfl⟩
abbrev main_v69 : Ref sig .tc := ⟨.hbm, 118, rfl⟩
abbrev main_v70 : Ref sig .tc := ⟨.hbm, 119, rfl⟩
abbrev main_cst_14 : Ref sig .tc := ⟨.hbm, 120, rfl⟩
abbrev main_cst_15 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_v71 : Ref sig .tc := ⟨.hbm, 127, rfl⟩
abbrev main_cst_16 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_17 : Ref sig .tc := ⟨.hbm, 133, rfl⟩
abbrev main_v76 : Ref sig .tc := ⟨.hbm, 134, rfl⟩
abbrev main_v77 : Ref sig .tc := ⟨.hbm, 135, rfl⟩
abbrev main_cst_18 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_cst_19 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_cst_20 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩

abbrev nD : Nat := 1
abbrev τ : Topo := Topo.v7x

variable {F : FTy → Type} [FloatOps F]
-- ==== Proof.Frames.lean ====
/-
  The claims about the runs themselves: each of the three programs runs from every memory, ends, changes neither of its
  two arguments, leaves every semaphore counter at zero; and the printed kernel and the one read at the ideal instance
  differ only in the two constants the ledger names. The two frames that carry the precondition follow from the ones
  that do not.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Moba

/-- The shape relations the precondition's function cites. -/
theorem preFacts : Cert.Pre_finite_queries_and_keys.Facts where
  slices_S32768x6144_S32768x4096_0_0 := by decide
  bcast_S_S32768x4096 := by decide
  reducesTo_S32768x4096_S_d0_1 := by decide
  h_S_ := by decide

/-- The kernel as printed runs, ends and leaves its arguments alone. -/
theorem frame_kernel : Cert.quiescent_Kernel := fun m ρ _ => Cert.Kernel.Gen.frame m ρ

/-- The same of the kernel read at the ideal instance. -/
theorem frame_ideal : Cert.quiescent_KernelIdeal := fun m ρ _ => Cert.KernelIdeal.Gen.frame m ρ

/-- The same of the reference read at the ideal instance. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ideal kernel's frame holds in particular from the memories the precondition admits. -/
theorem frame_ideal_pre :
    Cert.quiescent_KernelIdeal_pre_finite_queries_and_keys (hPre_finite_queries_and_keys := preFacts) :=
  fun m ρ _ => Cert.KernelIdeal.Gen.frame m ρ

/-- So does the reference's. -/
theorem frame_reference_pre :
    Cert.quiescent_ReferenceIdeal_pre_finite_queries_and_keys (hPre_finite_queries_and_keys := preFacts) :=
  fun m ρ _ => frame_reference m ρ trivial

/-- The two named constants: both stand for minus infinity. -/
theorem preserves : Cert.preserves_Kernel_KernelIdeal :=
  ⟨IdealRules.named_const.statement Cert.KernelIdeal.κ "mask" .f32 0xF149F2CA#32 ⊥ rfl,
   IdealRules.named_const.statement Cert.KernelIdeal.κ "gone" .f32 0xFF61B1E6#32 ⊥ rfl⟩

end Cert.Moba

end
-- ==== Proof.Head.lean ====
/-
  One head of the attention as a function of the head's columns: what the kernel body computes for the first 128 columns
  of its blocks and, by the same operations, for the last 128. The definitions follow the operations one for one; that
  the body's two stores are this function is Body.lean, what it is at an index is Blocks.lean, Chosen.lean.
-/
module

public import proofs.«01_k».proof.Proof.Gen.KernelIdeal

@[expose] public section

noncomputable section

namespace Cert.Moba

open Idealize.ShloMosaic Idealize.SL.Sem Cert.KernelIdeal Cert.KernelIdeal.Gen

variable {F : FTy → Type} [FloatOps F] [Named F]

/-- The rotation of one head's 2048 rows by the tables of cosines and sines. -/
def rope (cosT sinT x : FVec F S2048x128 .f32) : FVec F S2048x128 .f32 :=
  addf (mulf x cosT)
    (mulf (select (cmpi .slt (iota .tc S2048x128 32 [1] iota_S2048x128_d1_w32) (broadcast S2048x128 16#32))
      (dynamicRotate 1 112#32 none x rotates_S2048x128_d1) (dynamicRotate 1 16#32 none x rotates_S2048x128_d1)) sinT)

/-- A block of 256 rows is inside the 2048. -/
theorem rows_slice (j : Fin 8) : S2048x128.Slices ![256 * j.val, 0] S256x128 :=
  ⟨rfl, fun a => by
    match a with
    | ⟨0, _⟩ => show 256 * j.val + 256 ≤ 2048; omega
    | ⟨1, _⟩ => show 0 + 128 ≤ 128; omega⟩

/-- The mean of block `j`'s 256 rows. -/
def blockMean (kr : FVec F S2048x128 .f32) (j : Fin 8) : FVec F S1x128 .f32 :=
  divf (shapeCast S1x128 (multiReduction .add [0] S128
      (extractStridedSlice S256x128 ![256 * j.val, 0] kr (rows_slice j)) 0x00000000#32 reduces_S256x128_S128 (.inl rfl) rfl)
    shapeCasts_S128_S1x128) (broadcast S1x128 (Scalar.ofBits .f32 0x43800000#32))

/-- The eight means, one above the other. -/
def kMeans (kr : FVec F S2048x128 .f32) : FVec F S8x128 .bf16 :=
  truncf .bf16 (concatenate S8x128 0 (List.ofFn fun j : Fin 8 => ⟨S1x128, blockMean kr j⟩)
    concatenates_S1x128_S1x128_S1x128_S1x128_S1x128_S1x128_S1x128_S1x128_S8x128_d0) bitsLt_bf16_f32

/-- A table turned on its side and rounded. -/
def turned (x : FVec F S2048x128 .f32) : FVec F S128x2048 .bf16 :=
  truncf .bf16 (transpose S128x2048 [1, 0] x transposes_S2048x128_p1_0_S128x2048) bitsLt_bf16_f32

/-- The keys with the scale in them. -/
def scaled (kr : FVec F S2048x128 .f32) : FVec F S2048x128 .bf16 :=
  truncf .bf16 (mulf kr (broadcast S2048x128 (Scalar.ofBits .f32 0x3DB504F3#32))) bitsLt_bf16_f32

/-- Every query's score with every block's mean. -/
def gates (km : FVec F S8x128 .bf16) (qT : FVec F S128x2048 .bf16) : FVec F S8x2048 .f32 :=
  matmul dot_S8x128_S128x2048_S8x2048_1_0_0_1_n_n none km qT (constant S8x2048 .f32 0x00000000#32)

/-- Row `j` of column `q`: block `j` lies before the query's own block. -/
def pastBits : IVec S8x2048 1 :=
    have row : IVec S8x2048 32 := iota .tc S8x2048 32 [0] iota_S8x2048_d0_w32
    have col : IVec S8x2048 32 := iota .tc S8x2048 32 [1] iota_S8x2048_d1_w32
    have quo : IVec S8x2048 32 := divsi col (broadcast S8x2048 256#32)
    have sgn : IVec S8x2048 32 := subi (extui 32 (cmpi .sgt col (broadcast S8x2048 0#32)) natLt_1_32)
      (extui 32 (cmpi .slt col (broadcast S8x2048 0#32)) natLt_1_32)
    have one : BitVec 32 := Scalar.subi (Scalar.extui (Scalar.cmpi .sgt 256#32 0#32)) (Scalar.extui (Scalar.cmpi .slt 256#32 0#32))
    have odd : IVec S8x2048 1 := andi (cmpi .ne sgn (broadcast S8x2048 one))
      (cmpi .ne (remsi col (broadcast S8x2048 256#32)) (broadcast S8x2048 0#32))
    cmpi .slt row (select odd (subi quo (broadcast S8x2048 1#32)) quo)

/-- The row numbers as floats. -/
def rowNumbers : FVec F S8x2048 .f32 := sitofp .f32 (iota .tc S8x2048 32 [0] iota_S8x2048_d0_w32)

/-- A row repeated over the eight. -/
def overRows (v : FVec F S2048 .f32) : FVec F S8x2048 .f32 :=
  broadcastTo S8x2048 (shapeCast S1x2048 v shapeCasts_S2048_S1x2048) broadcasts_S1x2048_S8x2048

/-- Where each column's first greatest entry stands. -/
def hits (cur : FVec F S8x2048 .f32) : IVec S8x2048 1 :=
  cmpf .oeq (rowNumbers (F := F)) (overRows (multiReduction .minimumf [0] S2048
    (select (cmpf .oeq cur (overRows (multiReduction .maximumf [0] S2048 cur 0xFF800000#32 reduces_S8x2048_S2048 (.inl rfl) rfl)))
      (rowNumbers (F := F)) (broadcast S8x2048 (Scalar.ofBits .f32 0x43000000#32)))
    0x7F800000#32 reduces_S8x2048_S2048 (.inl rfl) rfl))

/-- The scores left after a round: the first greatest struck out. -/
def strike (cur : FVec F S8x2048 .f32) : FVec F S8x2048 .f32 :=
  select (hits cur) (broadcast S8x2048 (Named.named κ "gone" 0xFF61B1E6#32)) cur

/-- The marks after a round: one where the round hit a past block. -/
def mark (cur sel : FVec F S8x2048 .f32) : FVec F S8x2048 .f32 :=
  select (andi (hits cur) pastBits) (broadcast S8x2048 (Scalar.ofBits .f32 0x3F800000#32)) sel

/-- The gates of the past blocks, the others at minus infinity. -/
def pastGates (g : FVec F S8x2048 .f32) : FVec F S8x2048 .f32 :=
  select pastBits g (broadcast S8x2048 (Named.named κ "mask" 0xF149F2CA#32))

/-- The marks after three rounds. -/
def marks (cur : FVec F S8x2048 .f32) : FVec F S8x2048 .f32 :=
  mark (strike (strike cur)) (mark (strike cur) (mark cur (broadcast S8x2048 (Scalar.ofBits .f32 0x00000000#32))))

/-! ### One block of queries -/

/-- The shape of `n` rows by 256 queries. -/
abbrev rowsBy (n : ℕ) : Shape := ⟨2, ![n, 256]⟩

/-- Softmax down the rows of a table of scores, and its product with the values' columns. -/
def attend (n : ℕ) (hr : (rowsBy n).Reduces [0] S256) (hb : S1x256.Broadcasts (rowsBy n))
    (s : FVec F (rowsBy n) .f32) (v : FVec F ⟨2, ![128, n]⟩ .bf16) : FVec F S128x256 .f32 :=
  have e : FVec F (rowsBy n) .f32 := exp (subf s (broadcastTo (rowsBy n)
    (shapeCast S1x256 (multiReduction .maximumf [0] S256 s 0xFF800000#32 hr (.inl rfl) rfl) shapeCasts_S256_S1x256) hb))
  divf (matmul (DotDims.plain 128 n 256) none v (truncf .bf16 e bitsLt_bf16_f32) (constant S128x256 .f32 0x00000000#32))
    (broadcastTo S128x256 (shapeCast S1x256 (multiReduction .add [0] S256 e 0x00000000#32 hr (.inl rfl) rfl)
      shapeCasts_S256_S1x256) broadcasts_S1x256_S128x256)

/-- The scores of an own block: a key counts up to the query's own place. -/
def ownPart (s : FVec F S256x256 .f32) : FVec F S256x256 .f32 :=
  select (cmpi .sle (iota .tc S256x256 32 [0] iota_S256x256_d0_w32) (iota .tc S256x256 32 [1] iota_S256x256_d1_w32))
    s (broadcast S256x256 (Named.named κ "mask" 0xF149F2CA#32))

/-- The scores of an earlier block: the whole block counts where its mark is set. -/
def pastPart (mrow : FVec F S1x256 .f32) (s : FVec F S256x256 .f32) : FVec F S256x256 .f32 :=
  select (broadcastTo S256x256 (shapeCast S1x256 (cmpf .ogt mrow (broadcast S1x256 (Scalar.ofBits .f32 0x00000000#32)))
    shapeCasts_S1x256_S1x256) broadcasts_S1x256_S256x256) s (broadcast S256x256 (Named.named κ "mask" 0xF149F2CA#32))

/-- The first `n` of the 2048 rows of the keys. -/
theorem keys_slice (q : Fin 8) : S2048x128.Slices ![0, 0] ⟨2, ![256 * (q.val + 1), 128]⟩ :=
  ⟨rfl, fun a => by
    match a with
    | ⟨0, _⟩ => show 0 + 256 * (q.val + 1) ≤ 2048; omega
    | ⟨1, _⟩ => show 0 + 128 ≤ 128; omega⟩

/-- The columns of query block `q`. -/
theorem cols_slice (q : Fin 8) : S128x2048.Slices ![0, 256 * q.val] S128x256 :=
  ⟨rfl, fun a => by
    match a with
    | ⟨0, _⟩ => show 0 + 128 ≤ 128; omega
    | ⟨1, _⟩ => show 256 * q.val + 256 ≤ 2048; omega⟩

/-- The first columns of the values, up to query block `q`'s own. -/
theorem vals_slice (q : Fin 8) : S128x2048.Slices ![0, 0] ⟨2, ![128, 256 * (q.val + 1)]⟩ :=
  ⟨rfl, fun a => by
    match a with
    | ⟨0, _⟩ => show 0 + 128 ≤ 128; omega
    | ⟨1, _⟩ => show 0 + 256 * (q.val + 1) ≤ 2048; omega⟩

/-- Block `j`'s mark for the queries of block `q`. -/
theorem mark_slice (q j : Fin 8) : S8x2048.Slices ![j.val, 256 * q.val] S1x256 :=
  ⟨rfl, fun a => by
    match a with
    | ⟨0, _⟩ => show j.val + 1 ≤ 8; omega
    | ⟨1, _⟩ => show 256 * q.val + 256 ≤ 2048; omega⟩

/-- Block `j`'s rows among the first `q + 1` blocks'. -/
theorem part_slice (q : Fin 8) (j : Fin (q.val + 1)) : (rowsBy (256 * (q.val + 1))).Slices ![256 * j.val, 0] S256x256 :=
  ⟨rfl, fun a => by
    match a with
    | ⟨0, _⟩ => show 256 * j.val + 256 ≤ 256 * (q.val + 1); omega
    | ⟨1, _⟩ => show 0 + 256 ≤ 256; omega⟩

/-- The scores of query block `q` with the keys up to its own block's end. -/
def rawScores (q : Fin 8) (ks : FVec F S2048x128 .bf16) (qT : FVec F S128x2048 .bf16) : FVec F (rowsBy (256 * (q.val + 1))) .f32 :=
  matmul (DotDims.plain (256 * (q.val + 1)) 128 256) none
    (extractStridedSlice ⟨2, ![256 * (q.val + 1), 128]⟩ ![0, 0] ks (keys_slice q))
    (extractStridedSlice S128x256 ![0, 256 * q.val] qT (cols_slice q))
    (constant (rowsBy (256 * (q.val + 1))) .f32 0x00000000#32)

/-- Those scores block by block: earlier blocks under their marks, the own block under the order. -/
def scorePart (q : Fin 8) (m : FVec F S8x2048 .f32) (s : FVec F (rowsBy (256 * (q.val + 1))) .f32) (j : Fin (q.val + 1)) :
    FVec F S256x256 .f32 :=
  bif Nat.blt j.val q.val then
    pastPart (extractStridedSlice S1x256 ![j.val, 256 * q.val] m (mark_slice q ⟨j.val, by omega⟩))
      (extractStridedSlice S256x256 ![256 * j.val, 0] s (part_slice q j))
  else ownPart (extractStridedSlice S256x256 ![256 * j.val, 0] s (part_slice q j))

/-- The shape relations a block of queries after the first cites. -/
structure BlockShapes (q : Fin 8) : Prop where
  cat : 0 < q.val → Shape.Concatenates ((List.ofFn fun _ : Fin (q.val + 1) => S256x256)) (rowsBy (256 * (q.val + 1))) 0
  red : (rowsBy (256 * (q.val + 1))).Reduces [0] S256
  bc : S1x256.Broadcasts (rowsBy (256 * (q.val + 1)))

/-- They hold for each of the eight. -/
theorem blockShapes (q : Fin 8) : BlockShapes q := by
  match q with
  | 0 => exact (⟨fun h => absurd h (by decide), by decide, by decide⟩ : BlockShapes 0)
  | 1 => exact (⟨fun _ => by decide, by decide, by decide⟩ : BlockShapes 1)
  | 2 => exact (⟨fun _ => by decide, by decide, by decide⟩ : BlockShapes 2)
  | 3 => exact (⟨fun _ => by decide, by decide, by decide⟩ : BlockShapes 3)
  | 4 => exact (⟨fun _ => by decide, by decide, by decide⟩ : BlockShapes 4)
  | 5 => exact (⟨fun _ => by decide, by decide, by decide⟩ : BlockShapes 5)
  | 6 => exact (⟨fun _ => by decide, by decide, by decide⟩ : BlockShapes 6)
  | 7 => exact (⟨fun _ => by decide, by decide, by decide⟩ : BlockShapes 7)

/-- The parts of the score table have the shapes the table is put together from. -/
theorem scoreParts_cat (q : Fin 8) (hq : 0 < q.val) (f : Fin (q.val + 1) → FVec F S256x256 .f32) :
    Shape.Concatenates ((List.ofFn fun j : Fin (q.val + 1) => (⟨S256x256, f j⟩ : (s : Shape) × (s.Idx → F .f32))).map (·.1))
      (rowsBy (256 * (q.val + 1))) 0 := by
  rw [List.map_ofFn]; exact (blockShapes q).cat hq

/-- The attention of one block of 256 queries. -/
def queryBlock (q : Fin 8) (hq : 0 < q.val) (ks : FVec F S2048x128 .bf16) (vT qT : FVec F S128x2048 .bf16) (m : FVec F S8x2048 .f32) :
    FVec F S128x256 .f32 :=
  attend (256 * (q.val + 1)) (blockShapes q).red (blockShapes q).bc
    (concatenate (rowsBy (256 * (q.val + 1))) 0
      (List.ofFn fun j : Fin (q.val + 1) => ⟨S256x256, scorePart q m (rawScores q ks qT) j⟩) (scoreParts_cat q hq _))
    (extractStridedSlice ⟨2, ![128, 256 * (q.val + 1)]⟩ ![0, 0] vT (vals_slice q))

/-- The attention of the first 256 queries: their keys are their own block's alone. -/
def firstBlock (ks : FVec F S2048x128 .bf16) (vT qT : FVec F S128x2048 .bf16) : FVec F S128x256 .f32 :=
  attend 256 (blockShapes 0).red (blockShapes 0).bc (ownPart (rawScores 0 ks qT))
    (extractStridedSlice S128x256 ![0, 0] vT (vals_slice 0))

/-- The last block takes the values whole. -/
def lastBlock (ks : FVec F S2048x128 .bf16) (vT qT : FVec F S128x2048 .bf16) (m : FVec F S8x2048 .f32) : FVec F S128x256 .f32 :=
  attend 2048 (blockShapes 7).red (blockShapes 7).bc
    (concatenate (rowsBy 2048) 0
      (List.ofFn fun j : Fin 8 => ⟨S256x256, scorePart 7 m (matmul (DotDims.plain 2048 128 256) none ks
        (extractStridedSlice S128x256 ![0, 256 * 7] qT (cols_slice 7)) (constant (rowsBy 2048) .f32 0x00000000#32)) j⟩)
      (scoreParts_cat 7 (by decide) _)) vT

/-- The eight blocks of queries side by side, turned upright and rounded. -/
def headOf (ks : FVec F S2048x128 .bf16) (vT qT : FVec F S128x2048 .bf16) (m : FVec F S8x2048 .f32) : FVec F S2048x128 .bf16 :=
  truncf .bf16 (transpose S2048x128 [1, 0] (concatenate S128x2048 1
    [⟨S128x256, firstBlock ks vT qT⟩, ⟨S128x256, queryBlock 1 (by decide) ks vT qT m⟩, ⟨S128x256, queryBlock 2 (by decide) ks vT qT m⟩,
      ⟨S128x256, queryBlock 3 (by decide) ks vT qT m⟩, ⟨S128x256, queryBlock 4 (by decide) ks vT qT m⟩, ⟨S128x256, queryBlock 5 (by decide) ks vT qT m⟩,
      ⟨S128x256, queryBlock 6 (by decide) ks vT qT m⟩, ⟨S128x256, lastBlock ks vT qT m⟩]
    concatenates_S128x256_S128x256_S128x256_S128x256_S128x256_S128x256_S128x256_S128x256_S128x2048_d1)
    transposes_S128x2048_p1_0_S2048x128) bitsLt_bf16_f32

/-- One head, from its queries, keys and values and the tables. -/
def head (cosT sinT x y z : FVec F S2048x128 .f32) : FVec F S2048x128 .bf16 :=
  headOf (scaled (rope cosT sinT y)) (turned z) (turned (rope cosT sinT x))
    (marks (pastGates (gates (kMeans (rope cosT sinT y)) (turned (rope cosT sinT x)))))

end Cert.Moba

end
-- ==== Proof.Words.lean ====
/-
  The words and constants the kernel's selection is spelled with, as numbers: the pattern constants as extended reals,
  and the comparison of a block's number with the number of the query's own block.
-/
module

public import proofs.«01_k».proof.Proof.Head
public import Idealize.ShloMosaic.Lib.Pointwise

@[expose] public section

noncomputable section

namespace Cert.Moba

open Idealize.ShloMosaic Idealize.SL.Sem Cert.KernelIdeal Cert.KernelIdeal.Gen

/-- The greatest pattern is plus infinity. -/
theorem ofBits_top : Ideal.ofBits .f32 2139095040#32 = ⊤ := by
  simp [Ideal.ofBits, Ideal.ieee, -EReal.coe_mul]

/-- The least pattern is minus infinity. -/
theorem ofBits_bot : Ideal.ofBits .f32 4286578688#32 = ⊥ := by
  simp [Ideal.ofBits, Ideal.ieee, -EReal.coe_mul]

/-- The bound that stands for "no row". -/
theorem ofBits_128 : Ideal.ofBits .f32 1124073472#32 = ((128 : ℝ) : EReal) := by
  simp [Ideal.ofBits, Ideal.ieee, -EReal.coe_mul]; norm_num

/-- The size of a block. -/
theorem ofBits_256 : Ideal.ofBits .f32 1132462080#32 = ((256 : ℝ) : EReal) := by
  simp [Ideal.ofBits, Ideal.ieee, -EReal.coe_mul]; norm_num

/-- The scale is a real number. -/
theorem ofBits_scale : ∃ s : ℝ, Ideal.ofBits .f32 1035273459#32 = (s : EReal) := by
  simp only [Ideal.ofBits, Ideal.ieee]
  norm_num [-EReal.coe_mul]
  exact ⟨_, rfl⟩

/-- A row number below eight, as an extended real. -/
theorem sitofp_row (j : Fin 8) : (FloatOps.sitofp .f32 (BitVec.ofNat 32 j.val) : Ideal .f32) = ((j.val : ℝ) : EReal) := by
  have h : (BitVec.ofNat 32 j.val).toInt = (j.val : ℤ) := by revert j; decide
  show (((BitVec.ofNat 32 j.val).toInt : ℝ) : EReal) = _
  rw [h]; norm_cast

/-- Where the block of row `j` lies before the block of column `q`. -/
theorem pastBits_apply (j : Fin 8) (q : Fin 2048) : pastBits (ix2 j q) = BitVec.ofBool (decide (j.val < q.val / 256)) := by
  pointwise [pastBits]
  revert j q
  decide +kernel

end Cert.Moba

end
-- ==== Proof.Select.lean ====
/-
  Choosing the three best of eight scores, twice: by three rounds of "take the first greatest and strike it out", and by
  a stable descending sort. Both are described by the same number, the `rank` of a score: how many others come before it
  in the order "greater first, then the lower place".
-/
module

public import Idealize.ShloMosaic.Lib.SortFacts
public import Mathlib.Data.EReal.Basic

@[expose] public section

noncomputable section

open Idealize.ShloMosaic

namespace Cert.Moba

variable {n : ℕ}

/-- Place `i` comes before place `j`: its score is greater, or the scores are equal and it stands first. -/
def Beats (g : Fin n → EReal) (i j : Fin n) : Prop := g j < g i ∨ (g i = g j ∧ i < j)

theorem Beats.irrefl (g : Fin n → EReal) (i : Fin n) : ¬ Beats g i i := by
  rintro (h | ⟨-, h⟩)
  · exact lt_irrefl _ h
  · exact lt_irrefl _ h

theorem Beats.trans {g : Fin n → EReal} {i j k : Fin n} (h : Beats g i j) (h' : Beats g j k) : Beats g i k := by
  rcases h with h | ⟨e, h⟩ <;> rcases h' with h' | ⟨e', h'⟩
  · exact Or.inl (h'.trans h)
  · exact Or.inl (e' ▸ h)
  · exact Or.inl (e.symm ▸ h')
  · exact Or.inr ⟨e.trans e', h.trans h'⟩

theorem Beats.total (g : Fin n → EReal) {i j : Fin n} (h : i ≠ j) : Beats g i j ∨ Beats g j i := by
  rcases lt_trichotomy (g i) (g j) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

open Classical in
/-- How many places come before place `j`. -/
def rank (g : Fin n → EReal) (j : Fin n) : ℕ := (Finset.univ.filter fun i => Beats g i j).card

/-- What comes before has the lower rank. -/
theorem rank_lt {g : Fin n → EReal} {i j : Fin n} (h : Beats g i j) : rank g i < rank g j := by
  classical
  unfold rank
  refine Finset.card_lt_card ⟨fun k hk => ?_, fun hsub => ?_⟩
  · simp only [Finset.mem_filter, Finset.mem_univ, true_and] at hk ⊢
    exact hk.trans h
  · have := hsub (Finset.mem_filter.mpr ⟨Finset.mem_univ i, h⟩)
    exact Beats.irrefl g i (Finset.mem_filter.mp this).2

/-- No two places share a rank. -/
theorem rank_injective (g : Fin n → EReal) : Function.Injective (rank g) := by
  intro i j h
  by_contra hne
  rcases Beats.total g hne with hb | hb
  · exact absurd h (rank_lt hb).ne
  · exact absurd h (rank_lt hb).ne'

/-- Place `j` holds the greatest of the scores, and no earlier place does. -/
def FirstMax (c : Fin n → EReal) (j : Fin n) : Prop := (∀ i, c i ≤ c j) ∧ ∀ i, i < j → c i < c j

/-- Among finitely many scores one is the first greatest. -/
theorem exists_firstMax [NeZero n] (c : Fin n → EReal) : ∃ j, FirstMax c j := by
  classical
  obtain ⟨m, -, hm⟩ := Finset.exists_max_image (Finset.univ : Finset (Fin n)) c ⟨0, Finset.mem_univ _⟩
  obtain ⟨j, hj, hmin⟩ := Finset.exists_min_image (Finset.univ.filter fun i => c i = c m) id ⟨m, by simp⟩
  simp only [Finset.mem_filter, Finset.mem_univ, true_and, id] at hj hmin
  refine ⟨j, fun i => hj ▸ hm i (Finset.mem_univ _), fun i hij => ?_⟩
  rcases lt_or_eq_of_le (hm i (Finset.mem_univ _)) with h | h
  · exact hj ▸ h
  · exact absurd (hmin i h) (not_le.mpr hij)

/-- Which places are struck out after `t` rounds: in each the first greatest of what is left, a place struck out before
    counting as minus infinity. -/
def Struck (g : Fin n → EReal) : ℕ → Fin n → Prop
  | 0, _ => False
  | t + 1, j => Struck g t j ∨ FirstMax (fun i => by classical exact if Struck g t i then ⊥ else g i) j

/-- After `t` rounds the places struck out, among those whose score is not minus infinity, are those of rank below `t`. -/
theorem struck_iff [NeZero n] (g : Fin n → EReal) (t : ℕ) :
    ∀ j, g j ≠ ⊥ → (Struck g t j ↔ rank g j < t) := by
  classical
  induction t with
  | zero => intro j _; simp [Struck]
  | succ t ih =>
    obtain ⟨a, ha⟩ := exists_firstMax (fun i => if Struck g t i then (⊥ : EReal) else g i)
    have huniq : ∀ j, FirstMax (fun i => if Struck g t i then (⊥ : EReal) else g i) j → j = a := by
      intro j hj
      rcases lt_trichotomy j a with h | h | h
      · exact absurd (ha.2 j h) (not_lt.mpr (hj.1 a))
      · exact h
      · exact absurd (hj.2 a h) (not_lt.mpr (ha.1 j))
    intro j hj
    by_cases hbot : (if Struck g t a then (⊥ : EReal) else g a) = ⊥
    · have hall : Struck g t j := by
        by_contra hns
        have := ha.1 j
        simp only [hns, if_false] at this
        rw [hbot] at this
        exact hj (le_bot_iff.mp this)
      exact ⟨fun _ => Nat.lt_succ_of_lt ((ih j hj).mp hall), fun _ => Or.inl hall⟩
    · have hna : ¬ Struck g t a := fun h => hbot (if_pos h)
      have hga : g a ≠ ⊥ := fun h => hbot (by rw [if_neg hna, h])
      have hge : t ≤ rank g a := not_lt.mp fun h => hna ((ih a hga).mpr h)
      have hbe : ∀ i, Beats g i a → rank g i < t := by
        intro i hi
        have hgi : g i ≠ ⊥ := by
          rcases hi with h | ⟨h, -⟩
          · exact (lt_of_le_of_lt bot_le h).ne'
          · exact h ▸ hga
        by_contra hn
        have hni : ¬ Struck g t i := fun h => hn ((ih i hgi).mp h)
        rcases hi with h | ⟨h, hlt⟩
        · have := ha.1 i
          simp only [hni, hna, if_false] at this
          exact absurd h (not_lt.mpr this)
        · have := ha.2 i hlt
          simp only [hni, hna, if_false] at this
          exact absurd h this.ne
      have hle : rank g a ≤ t := by
        have hcard : (Finset.univ.filter fun i => Beats g i a).card ≤ (Finset.range t).card :=
          Finset.card_le_card_of_injOn (rank g)
            (fun i hi => by
              have h2 := hbe i (by simpa using hi)
              simpa using h2)
            (fun i _ k _ h => rank_injective g h)
        rw [Finset.card_range] at hcard
        unfold rank; convert hcard
      have hra : rank g a = t := le_antisymm hle hge
      have hfm : FirstMax (fun i => if Struck g t i then (⊥ : EReal) else g i) j ↔ j = a :=
        ⟨huniq j, fun h => h ▸ ha⟩
      show (Struck g t j ∨ FirstMax (fun i => if Struck g t i then (⊥ : EReal) else g i) j) ↔ _
      rw [hfm, ih j hj, Nat.lt_succ_iff_lt_or_eq]
      refine or_congr Iff.rfl ⟨fun h => h ▸ hra, fun h => rank_injective g (h.trans hra.symm)⟩

/-! ### The stable sort -/

/-- Inserting a place that stands before all of a sorted list keeps the list in the order of `Beats`. -/
theorem pairwise_insert (g : Fin n → EReal) (a : Fin n) (l : List (Fin n)) (ha : ∀ b ∈ l, a < b)
    (hl : l.Pairwise (Beats g)) : (insertBefore (fun x y => decide (g y < g x)) a l).Pairwise (Beats g) := by
  induction l with
  | nil => simp [insertBefore]
  | cons b l ih =>
    obtain ⟨hb, hl'⟩ := List.pairwise_cons.mp hl
    unfold insertBefore
    split
    · next h =>
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl (of_decide_eq_true h)
      · exact hb x hx'
    · next h =>
      have hab : g b ≤ g a := not_lt.mp fun h' => h (decide_eq_true h')
      refine List.pairwise_cons.mpr ⟨fun x hx => ?_, hl⟩
      have hle : g x ≤ g a := by
        rcases List.mem_cons.mp hx with rfl | hx'
        · exact hab
        · rcases hb x hx' with h1 | ⟨h1, -⟩
          · exact h1.le.trans hab
          · exact h1 ▸ hab
      rcases lt_or_eq_of_le hle with h1 | h1
      · exact Or.inl h1
      · exact Or.inr ⟨h1.symm, ha x hx⟩

/-- The stable descending sort of places in order leaves them in the order of `Beats`. -/
theorem pairwise_sort (g : Fin n → EReal) (l : List (Fin n)) (hl : l.Pairwise (· < ·)) :
    (stableSort (fun x y => decide (g y < g x)) l).Pairwise (Beats g) := by
  induction l with
  | nil => simp [stableSort]
  | cons a l ih =>
    obtain ⟨ha, hl'⟩ := List.pairwise_cons.mp hl
    unfold stableSort
    exact pairwise_insert g a _ (fun b hb => ha b ((perm_stableSort _ l).mem_iff.mp hb)) (ih hl')

/-- The place the stable descending sort puts at position `k` has rank `k`. -/
theorem rank_sortedFrom (g : Fin n → EReal) (k : Fin n) :
    rank g (sortedFrom (fun x y => decide (g y < g x)) k) = k.val := by
  classical
  set L := sortPositions n (fun x y => decide (g y < g x)) with hL
  have hlen : L.length = n := length_sortPositions n _
  have hp : L.Pairwise (Beats g) := pairwise_sort g (List.finRange n) (List.pairwise_lt_finRange n)
  have hmono : ∀ i : Fin n, ∀ j : Fin n, i < j → rank g (L.get (i.cast hlen.symm)) < rank g (L.get (j.cast hlen.symm)) :=
    fun i j hij => rank_lt (List.pairwise_iff_get.mp hp _ _ (show (i.cast hlen.symm).val < (j.cast hlen.symm).val from hij))
  have hbound : ∀ i : Fin n, rank g (L.get (i.cast hlen.symm)) < n := fun i => by
    unfold rank
    refine lt_of_lt_of_eq (Finset.card_lt_card (t := Finset.univ) ⟨Finset.filter_subset _ _, fun h =>
      Beats.irrefl g _ (Finset.mem_filter.mp (h (Finset.mem_univ (L.get (i.cast hlen.symm))))).2⟩) (by simp)
  let f : Fin n → Fin n := fun i => ⟨rank g (L.get (i.cast hlen.symm)), hbound i⟩
  have hf : StrictMono f := fun i j hij => hmono i j hij
  have hid : f = id := by
    have h1 := StrictMono.orderIsoOfSurjective f hf (Finite.surjective_of_injective hf.injective)
    have : (StrictMono.orderIsoOfSurjective f hf (Finite.surjective_of_injective hf.injective)) = OrderIso.refl _ :=
      Subsingleton.elim _ _
    funext i
    exact congrArg (fun e : Fin n ≃o Fin n => e i) this
  have := congrArg (fun h : Fin n → Fin n => (h k).val) hid
  exact this

/-- The places the sort puts among the first `t` are those of rank below `t`. -/
theorem exists_sortedFrom_iff (g : Fin n → EReal) (t : ℕ) (ht : t ≤ n) (j : Fin n) :
    (∃ r : Fin t, sortedFrom (fun x y => decide (g y < g x)) (r.castLE ht) = j) ↔ rank g j < t := by
  constructor
  · rintro ⟨r, rfl⟩
    rw [rank_sortedFrom]
    exact r.isLt
  · intro h
    refine ⟨⟨rank g j, h⟩, rank_injective g ?_⟩
    rw [rank_sortedFrom]
    rfl

/-! ### One round, as sums over the eight rows are read -/

/-- The greatest of finitely many scores, as a fold from minus infinity. -/
theorem fold_max_le_iff (c : Fin n → EReal) (j : Fin n) : c j = Finset.univ.fold max ⊥ c ↔ ∀ i, c i ≤ c j := by
  have hle : ∀ i, c i ≤ Finset.univ.fold max ⊥ c := fun i =>
    (Finset.le_fold_max (c i)).mpr (Or.inr ⟨i, Finset.mem_univ _, le_rfl⟩)
  constructor
  · intro h i; rw [h]; exact hle i
  · intro h
    exact le_antisymm (hle j) ((Finset.fold_max_le _).mpr ⟨bot_le, fun i _ => h i⟩)

/-- A row number (below the bound `b`) is the least of the rows holding the greatest score exactly when that row is the
    first greatest. -/
theorem row_eq_fold_min_iff (c : Fin n → EReal) (b : ℝ) (hb : (n : ℝ) ≤ b) (j : Fin n) [NeZero n] :
    (((j.val : ℝ) : EReal) = Finset.univ.fold min ⊤
        (fun i : Fin n => by classical exact if c i = Finset.univ.fold max ⊥ c then (((i.val : ℝ) : EReal)) else ((b : ℝ) : EReal)))
      ↔ FirstMax c j := by
  classical
  obtain ⟨a, ha⟩ := exists_firstMax c
  have hmax : ∀ i, (c i = Finset.univ.fold max ⊥ c) ↔ ∀ k, c k ≤ c i := fold_max_le_iff c
  have hval : Finset.univ.fold min ⊤
        (fun i : Fin n => if c i = Finset.univ.fold max ⊥ c then (((i.val : ℝ) : EReal)) else ((b : ℝ) : EReal)) = ((a.val : ℝ) : EReal) := by
    refine le_antisymm ((Finset.fold_min_le _).mpr (Or.inr ⟨a, Finset.mem_univ _, ?_⟩)) ((Finset.le_fold_min _).mpr ⟨le_top, fun i _ => ?_⟩)
    · rw [if_pos ((hmax a).mpr ha.1)]
    · split
      · next h =>
        have h1 := (hmax i).mp h
        have : a ≤ i := not_lt.mp fun hlt => absurd (ha.2 i hlt) (not_lt.mpr (h1 a))
        exact_mod_cast this
      · have h2 : (a.val : ℝ) ≤ n := by exact_mod_cast a.isLt.le
        exact_mod_cast h2.trans hb
  rw [hval]
  constructor
  · intro h
    have h3 : j = a := by
      apply Fin.ext
      exact_mod_cast h
    exact h3 ▸ ha
  · intro h
    have h3 : j = a := by
      rcases lt_trichotomy j a with h1 | h1 | h1
      · exact absurd (ha.2 j h1) (not_lt.mpr (h.1 a))
      · exact h1
      · exact absurd (h.2 a h1) (not_lt.mpr (ha.1 j))
    rw [h3]

end Cert.Moba

end
-- ==== Proof.Chosen.lean ====
/-
  The marks the kernel's three rounds leave: block `j` is marked for query `q` exactly when it lies before the query's own
  block and fewer than three of the scores come before its own.
-/
module

public import proofs.«01_k».proof.Proof.Words
public import proofs.«01_k».proof.Proof.Select

@[expose] public section

noncomputable section

namespace Cert.Moba

open Idealize.ShloMosaic Idealize.SL.Sem Cert.KernelIdeal Cert.KernelIdeal.Gen

/-- The scores of query `q`: the past blocks' gates, minus infinity for the others. -/
def pastScores (g : Fin 8 → Fin 2048 → EReal) (q : Fin 2048) (j : Fin 8) : EReal := if j.val < q.val / 256 then g j q else ⊥

/-- Block `j` is chosen by query `q`. -/
def Chosen (g : Fin 8 → Fin 2048 → EReal) (q : Fin 2048) (j : Fin 8) : Prop :=
  j.val < q.val / 256 ∧ rank (pastScores g q) j < 3

theorem named_mask : (Named.named κ "mask" (φ := .f32) 0xF149F2CA#32 : Ideal .f32) = (⊥ : EReal) :=
  IdealRules.named_const.ideal_named_scalar _ _ _ _ rfl

theorem named_gone : (Named.named κ "gone" (φ := .f32) 0xFF61B1E6#32 : Ideal .f32) = (⊥ : EReal) :=
  IdealRules.named_const.ideal_named_scalar _ _ _ _ rfl

/-- A word made from a truth value selects by it. -/
theorem select_ofBool {α : Type} (p : Prop) [Decidable p] (a b : α) :
    Scalar.select (BitVec.ofBool (decide p)) a b = if p then a else b := by
  by_cases h : p <;> simp [Scalar.select, h]

/-- A round hits row `j` of column `q` exactly when that row is the column's first greatest. -/
theorem hits_apply (cur : FVec Ideal S8x2048 .f32) (j : Fin 8) (q : Fin 2048) :
    hits cur (ix2 j q) = BitVec.ofBool (by classical exact decide (FirstMax (fun i : Fin 8 => (cur (ix2 i q) : EReal)) j)) := by
  classical
  pointwise [hits, rowNumbers, overRows]
  simp only [sitofp_row, ofBits_top, ofBits_bot, ofBits_128]
  congr 1
  exact decide_eq_decide.mpr (row_eq_fold_min_iff (fun i : Fin 8 => (cur (ix2 i q) : EReal)) 128 (by norm_num) j)

theorem strike_apply (cur : FVec Ideal S8x2048 .f32) (j : Fin 8) (q : Fin 2048) :
    strike cur (ix2 j q) = by classical exact if FirstMax (fun i : Fin 8 => (cur (ix2 i q) : EReal)) j then ⊥ else cur (ix2 j q) := by
  classical
  pointwise [strike]
  rw [hits_apply, select_ofBool, named_gone]

theorem mark_apply (cur sel : FVec Ideal S8x2048 .f32) (j : Fin 8) (q : Fin 2048) :
    mark cur sel (ix2 j q) =
      (by classical exact if FirstMax (fun i : Fin 8 => (cur (ix2 i q) : EReal)) j ∧ j.val < q.val / 256 then 1 else sel (ix2 j q)) := by
  classical
  pointwise [mark]
  rw [hits_apply, pastBits_apply]
  by_cases h1 : FirstMax (fun i : Fin 8 => (cur (ix2 i q) : EReal)) j <;> by_cases h2 : j.val < q.val / 256 <;>
    simp [h1, h2, Scalar.select, IntOp.andi]

theorem pastGates_apply (g : FVec Ideal S8x2048 .f32) (j : Fin 8) (q : Fin 2048) :
    pastGates g (ix2 j q) = pastScores (fun j q => g (ix2 j q)) q j := by
  pointwise [pastGates]
  rw [pastBits_apply, select_ofBool, named_mask]
  rfl

/-- What is left of a column after `t` rounds. -/
theorem strike_left (g : Fin 8 → EReal) (t : ℕ) (cur : FVec Ideal S8x2048 .f32) (q : Fin 2048)
    (h : ∀ i, (cur (ix2 i q) : EReal) = by classical exact if Struck g t i then ⊥ else g i) (i : Fin 8) :
    (strike cur (ix2 i q) : EReal) = by classical exact if Struck g (t + 1) i then ⊥ else g i := by
  classical
  rw [strike_apply]
  have e : (fun i : Fin 8 => (cur (ix2 i q) : EReal)) = fun i => if Struck g t i then ⊥ else g i := funext h
  rw [e, h i]
  by_cases h1 : Struck g t i <;> by_cases h2 : FirstMax (fun i => if Struck g t i then ⊥ else g i) i <;>
    simp [Struck, h1, h2]

/-- The marks after three rounds: one at the chosen blocks, nothing elsewhere. -/
theorem marks_apply (g : FVec Ideal S8x2048 .f32) (q : Fin 2048) (j : Fin 8)
    (hg : ∀ j : Fin 8, j.val < q.val / 256 → (g (ix2 j q) : EReal) ≠ ⊥) :
    marks (pastGates g) (ix2 j q) = by classical exact if Chosen (fun j q => g (ix2 j q)) q j then 1 else 0 := by
  classical
  have h0 : ∀ i, (pastGates g (ix2 i q) : EReal) =
      if Struck (pastScores (fun j q => g (ix2 j q)) q) 0 i then ⊥ else pastScores (fun j q => g (ix2 j q)) q i := by
    intro i; rw [pastGates_apply]; simp [Struck]
  have h1 := strike_left _ 0 _ q h0
  have h2 := strike_left _ 1 _ q h1
  have e0 := funext h0
  have e1 := funext h1
  have e2 := funext h2
  rw [marks, mark_apply, mark_apply, mark_apply, e0, e1, e2]
  have hz : (broadcast S8x2048 (Scalar.ofBits .f32 0x00000000#32) : FVec Ideal S8x2048 .f32) (ix2 j q) = 0 := by pointwise
  rw [hz]
  by_cases hp : j.val < q.val / 256
  · have hne : pastScores (fun j q => g (ix2 j q)) q j ≠ ⊥ := by rw [pastScores, if_pos hp]; exact hg j hp
    have hs := struck_iff (pastScores (fun j q => g (ix2 j q)) q) 3 j hne
    have hr : Struck (pastScores (fun j q => g (ix2 j q)) q) 3 j ↔
        (((False ∨ FirstMax (fun i => if Struck (pastScores (fun j q => g (ix2 j q)) q) 0 i then ⊥ else pastScores (fun j q => g (ix2 j q)) q i) j) ∨
          FirstMax (fun i => if Struck (pastScores (fun j q => g (ix2 j q)) q) 1 i then ⊥ else pastScores (fun j q => g (ix2 j q)) q i) j) ∨
          FirstMax (fun i => if Struck (pastScores (fun j q => g (ix2 j q)) q) 2 i then ⊥ else pastScores (fun j q => g (ix2 j q)) q i) j) :=
      Iff.rfl
    have hc : Chosen (fun j q => g (ix2 j q)) q j ↔ Struck (pastScores (fun j q => g (ix2 j q)) q) 3 j := by
      rw [hs]; exact and_iff_right hp
    simp only [hc, hr]
    generalize FirstMax (fun i => if Struck (pastScores (fun j q => g (ix2 j q)) q) 0 i then ⊥ else pastScores (fun j q => g (ix2 j q)) q i) j = A
    generalize FirstMax (fun i => if Struck (pastScores (fun j q => g (ix2 j q)) q) 1 i then ⊥ else pastScores (fun j q => g (ix2 j q)) q i) j = B
    generalize FirstMax (fun i => if Struck (pastScores (fun j q => g (ix2 j q)) q) 2 i then ⊥ else pastScores (fun j q => g (ix2 j q)) q i) j = C
    by_cases hA : A <;> by_cases hB : B <;> by_cases hC : C <;> simp [hA, hB, hC, hp]
  · simp [Chosen, hp]

end Cert.Moba

end
-- ==== Proof.Plain.lean ====
/-
  A plain matrix product of any extents at an index.
-/
module

public import Idealize.ShloMosaic.Lib.Pointwise
public import Idealize.ShloMosaic.Lib.MatmulPlain
public import Idealize.ShloMosaic.Lib.Pointwise.IndexBridge

@[expose] public section

noncomputable section

namespace Cert.Moba

open Idealize.ShloMosaic

/-- A product from a zero start at `(r, c)`: the sum of the products along the contracted axis. -/
theorem plain_apply {M K N : ℕ} {φ₁ φ₂ : FTy} (l : FVec Ideal ⟨2, ![M, K]⟩ φ₁) (r : FVec Ideal ⟨2, ![K, N]⟩ φ₂)
    (a : Fin M) (b : Fin N) :
    matmul (DotDims.plain M K N) none l r (constant ⟨2, ![M, N]⟩ .f32 0x00000000#32) (ix2 a b)
      = ∑ k : Fin K, l (ix2 a k) * r (ix2 k b) := by
  have h := Ideal.matmul_plain_apply none l r (constant ⟨2, ![M, N]⟩ .f32 0x00000000#32) a b
  simp only [← ix2_eq_valueIdx] at h
  refine Eq.trans ?_ (h.trans ?_)
  · rfl
  · have h0 : (constant ⟨2, ![M, N]⟩ .f32 0x00000000#32 : FVec Ideal _ _) (ix2 a b) = 0 := Ideal.ofBits_zero_f32
    rw [h0, zero_add]

end Cert.Moba

end
-- ==== Proof.Blocks.lean ====
/-
  One block of queries at an index: the softmax down a table of scores, the table's entries, and the block's result.
-/
module

public import proofs.«01_k».proof.Proof.Chosen
public import proofs.«01_k».proof.Proof.Plain
public import Idealize.ShloMosaic.Lib.Pipeline.Value

@[expose] public section

noncomputable section

namespace Cert.Moba

open Idealize.ShloMosaic Idealize.SL.Sem Cert.KernelIdeal Cert.KernelIdeal.Gen

/-- The softmax-weighted sum of `v` under the scores `s`. -/
def weigh {n : ℕ} (s v : Fin n → EReal) : EReal :=
  Ideal.div (∑ r, v r * Ideal.exp (s r - Finset.univ.fold max ⊥ s)) (∑ r, Ideal.exp (s r - Finset.univ.fold max ⊥ s))

/-- The attention of a block, at a coordinate and a query. -/
theorem attend_apply (n : ℕ) (hr : (rowsBy n).Reduces [0] S256) (hb : S1x256.Broadcasts (rowsBy n))
    (s : FVec Ideal (rowsBy n) .f32) (v : FVec Ideal ⟨2, ![128, n]⟩ .bf16) (d : Fin 128) (c : Fin 256) :
    attend n hr hb s v (ix2 d c) = weigh (fun r : Fin n => s (ix2 r c)) (fun r : Fin n => v (ix2 d r)) := by
  unfold attend
  rw [divf_apply, plain_apply]
  pointwise
  simp only [ofBits_bot]
  rfl

theorem ownPart_apply (s : FVec Ideal S256x256 .f32) (r c : Fin 256) :
    ownPart s (ix2 r c) = if r.val ≤ c.val then (s (ix2 r c) : EReal) else ⊥ := by
  pointwise [ownPart]
  have h : ∀ r : Fin 256, (BitVec.ofNat 32 r.val).toInt = (r.val : ℤ) := by decide +kernel
  have h' : IntOp.cmpi .sle (BitVec.ofNat 32 r.val) (BitVec.ofNat 32 c.val) = BitVec.ofBool (decide (r.val ≤ c.val)) := by
    show BitVec.ofBool (decide ((BitVec.ofNat 32 r.val).toInt ≤ (BitVec.ofNat 32 c.val).toInt)) = _
    rw [h, h]; simp only [Nat.cast_le]
  rw [h', select_ofBool, named_mask]

theorem pastPart_apply (m : FVec Ideal S1x256 .f32) (s : FVec Ideal S256x256 .f32) (r c : Fin 256) :
    pastPart m s (ix2 r c) = if (0 : EReal) < m (ix2 0 c) then (s (ix2 r c) : EReal) else ⊥ := by
  pointwise [pastPart]
  rw [named_mask]

/-- A row of the keys against a column of the queries. -/
theorem rawScores_apply (q : Fin 8) (ks : FVec Ideal S2048x128 .bf16) (qT : FVec Ideal S128x2048 .bf16)
    (r : Fin (256 * (q.val + 1))) (c : Fin 256) :
    rawScores q ks qT (ix2 r c) = ∑ d : Fin 128, (ks (ix2 ⟨r.val, by omega⟩ d) * qT (ix2 d ⟨256 * q.val + c.val, by omega⟩) : EReal) := by
  unfold rawScores
  rw [plain_apply]
  refine Finset.sum_congr rfl fun d _ => ?_
  congr 1
  · refine congrArg ks (funext fun a => Fin.ext ?_)
    match a with
    | ⟨0, _⟩ => exact Nat.zero_add _
    | ⟨1, _⟩ => exact Nat.zero_add _
  · refine congrArg qT (funext fun a => Fin.ext ?_)
    match a with
    | ⟨0, _⟩ => exact Nat.zero_add _
    | ⟨1, _⟩ => rfl

end Cert.Moba

end
-- ==== Proof.Prefix.lean ====
/-
  Keys that are masked out do not count: a softmax over the first keys is the softmax over all of them when the others'
  scores are minus infinity.
-/
module

public import proofs.«01_k».proof.Proof.Blocks

@[expose] public section

noncomputable section

namespace Cert.Moba

open Idealize.ShloMosaic

theorem weigh_prefix {n k N : ℕ} (hN : n + k = N) (s v : Fin N → EReal) (h : ∀ r : Fin N, n ≤ r.val → s r = ⊥) :
    weigh (fun r : Fin n => s ⟨r.val, by omega⟩) (fun r : Fin n => v ⟨r.val, by omega⟩) = weigh s v := by
  subst hN
  have hb : ∀ i : Fin k, s (Fin.natAdd n i) = ⊥ := fun i => h _ (by simp)
  have hm : Finset.univ.fold max ⊥ (fun r : Fin n => s ⟨r.val, by omega⟩) = Finset.univ.fold max ⊥ s := by
    refine le_antisymm ((Finset.fold_max_le _).mpr ⟨bot_le, fun i _ => (Finset.le_fold_max _).mpr (Or.inr ⟨_, Finset.mem_univ _, le_rfl⟩)⟩)
      ((Finset.fold_max_le _).mpr ⟨bot_le, fun i _ => ?_⟩)
    by_cases hi : i.val < n
    · exact (Finset.le_fold_max _).mpr (Or.inr ⟨⟨i.val, hi⟩, Finset.mem_univ _, le_rfl⟩)
    · rw [h i (not_lt.mp hi)]; exact bot_le
  have he : ∀ i : Fin k, Ideal.exp (s (Fin.natAdd n i) - Finset.univ.fold max ⊥ s) = 0 := by
    intro i; rw [hb, EReal.bot_sub]; rfl
  unfold weigh
  rw [hm, Fin.sum_univ_add, Fin.sum_univ_add]
  simp only [he, mul_zero, Finset.sum_const_zero, add_zero]
  rfl

/-- Query `q` sees key `r`: in its own block up to its own place, elsewhere in the blocks it has chosen. -/
def Seen (g : Fin 8 → Fin 2048 → EReal) (q r : Fin 2048) : Prop :=
  (r.val / 256 = q.val / 256 ∧ r.val ≤ q.val) ∨ Chosen g q ⟨r.val / 256, by omega⟩

/-- The score of query `q` with key `r`: minus infinity where the key is not seen. -/
def score (k qr : Fin 2048 → Fin 128 → EReal) (g : Fin 8 → Fin 2048 → EReal) (q r : Fin 2048) : EReal := by
  classical exact if Seen g q r then ∑ d, k r d * qr q d else ⊥

/-- A key after the query's own block is not seen. -/
theorem score_after (k qr : Fin 2048 → Fin 128 → EReal) (g : Fin 8 → Fin 2048 → EReal) (q r : Fin 2048)
    (h : q.val / 256 < r.val / 256) : score k qr g q r = ⊥ := by
  classical
  refine if_neg ?_
  rintro (⟨h1, -⟩ | ⟨h1, -⟩)
  · omega
  · exact absurd h1 (by show ¬ r.val / 256 < q.val / 256; omega)

end Cert.Moba

end
-- ==== Proof.Spec.lean ====
/-
  What both programs compute, as functions of one head's columns: the rotation of the queries and keys, the gates, and
  the softmax over the keys a query sees; and that finite queries and keys give finite gates and scores.
-/
module

public import proofs.«01_k».proof.Proof.Prefix

@[expose] public section

noncomputable section

namespace Cert.Moba

open Idealize.ShloMosaic

/-- A real number, among the extended ones. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.add {x y : EReal} (hx : Real' x) (hy : Real' y) : Real' (x + y) := by
  obtain ⟨a, rfl⟩ := hx; obtain ⟨b, rfl⟩ := hy; exact ⟨a + b, (EReal.coe_add a b).symm⟩

theorem Real'.sub {x y : EReal} (hx : Real' x) (hy : Real' y) : Real' (x - y) := by
  obtain ⟨a, rfl⟩ := hx; obtain ⟨b, rfl⟩ := hy; exact ⟨a - b, (EReal.coe_sub a b).symm⟩

theorem Real'.neg {x : EReal} (hx : Real' x) : Real' (-x) := by
  obtain ⟨a, rfl⟩ := hx; exact ⟨-a, (EReal.coe_neg a).symm⟩

theorem Real'.sum {ι : Type*} (s : Finset ι) (f : ι → EReal) (h : ∀ i, Real' (f i)) : Real' (∑ i ∈ s, f i) := by
  classical
  induction s using Finset.induction_on with
  | empty => exact ⟨0, by simp⟩
  | insert a s ha ih => rw [Finset.sum_insert ha]; exact (h a).add ih

theorem Real'.div {x y : EReal} (hx : Real' x) (hy : Real' y) (h0 : y ≠ 0) : Real' (Ideal.div x y) := by
  obtain ⟨a, rfl⟩ := hx; obtain ⟨b, rfl⟩ := hy
  refine ⟨a * b⁻¹, ?_⟩
  rw [Ideal.div, if_neg h0, ← EReal.coe_inv, ← EReal.coe_mul]

theorem Real'.cos {x : EReal} (hx : Real' x) : Real' (Ideal.cos x) := by
  obtain ⟨a, rfl⟩ := hx; exact ⟨Real.cos a, rfl⟩

theorem Real'.sin {x : EReal} (hx : Real' x) : Real' (Ideal.sin x) := by
  obtain ⟨a, rfl⟩ := hx; exact ⟨Real.sin a, rfl⟩

theorem Real'.pow {x y : EReal} (hx : Real' x) (hy : Real' y) : Real' (Ideal.pow x y) := by
  obtain ⟨a, rfl⟩ := hx; obtain ⟨b, rfl⟩ := hy; exact ⟨Real.rpow a b, rfl⟩

theorem Real'.ne_bot {x : EReal} (hx : Real' x) : x ≠ ⊥ := by
  obtain ⟨a, rfl⟩ := hx; exact EReal.coe_ne_bot a

/-- A real factor moves out of a finite sum of real numbers. -/
theorem sum_mul_real {ι : Type*} (s : Finset ι) (f : ι → EReal) (c : EReal) (hf : ∀ i, Real' (f i)) (hc : Real' c) :
    (∑ i ∈ s, f i) * c = ∑ i ∈ s, f i * c := by
  obtain ⟨b, rfl⟩ := hc
  choose a ha using hf
  have hf' : f = fun i => (a i : EReal) := funext ha
  subst hf'
  have h1 : ∀ t : Finset ι, ∑ i ∈ t, ((a i : ℝ) : EReal) = ((∑ i ∈ t, a i : ℝ) : EReal) := by
    classical
    intro t
    induction t using Finset.induction_on with
    | empty => simp
    | insert x t hx ih => rw [Finset.sum_insert hx, Finset.sum_insert hx, ih, EReal.coe_add]
  have h2 : ∀ t : Finset ι, ∑ i ∈ t, ((a i : ℝ) : EReal) * (b : EReal) = ((∑ i ∈ t, a i * b : ℝ) : EReal) := by
    classical
    intro t
    induction t using Finset.induction_on with
    | empty => simp
    | insert x t hx ih => rw [Finset.sum_insert hx, Finset.sum_insert hx, ih, EReal.coe_add, EReal.coe_mul]
  rw [h1, h2, ← EReal.coe_mul, Finset.sum_mul]

/-- One head's rows rotated by the angles `a`: the first 32 coordinates in pairs sixteen apart, the rest as they are. -/
def turn (a : Fin 2048 → Fin 16 → EReal) (x : Fin 2048 → Fin 128 → EReal) (r : Fin 2048) (d : Fin 128) : EReal :=
  if h : d.val < 16 then
    x r d * Ideal.cos (a r ⟨d.val, h⟩) - x r ⟨d.val + 16, by omega⟩ * Ideal.sin (a r ⟨d.val, h⟩)
  else if h' : d.val < 32 then
    x r d * Ideal.cos (a r ⟨d.val - 16, by omega⟩) + x r ⟨d.val - 16, by omega⟩ * Ideal.sin (a r ⟨d.val - 16, by omega⟩)
  else x r d

theorem turn_real {a : Fin 2048 → Fin 16 → EReal} {x : Fin 2048 → Fin 128 → EReal} (ha : ∀ r f, Real' (a r f))
    (hx : ∀ r d, Real' (x r d)) (r : Fin 2048) (d : Fin 128) : Real' (turn a x r d) := by
  unfold turn
  split_ifs with h h'
  · exact ((hx _ _).mul (ha _ _).cos).sub ((hx _ _).mul (ha _ _).sin)
  · exact ((hx _ _).mul (ha _ _).cos).add ((hx _ _).mul (ha _ _).sin)
  · exact hx _ _

/-- The gate of block `j` for query `s`: the block's mean key against the query. -/
def gate (k q : Fin 2048 → Fin 128 → EReal) (j : Fin 8) (s : Fin 2048) : EReal :=
  ∑ d : Fin 128, Ideal.div (∑ o : Fin 256, k ⟨256 * j.val + o.val, by omega⟩ d) (Ideal.ofBits .f32 1132462080#32) * q s d

theorem gate_real {k q : Fin 2048 → Fin 128 → EReal} (hk : ∀ r d, Real' (k r d)) (hq : ∀ r d, Real' (q r d)) (j : Fin 8)
    (s : Fin 2048) : Real' (gate k q j s) := by
  refine Real'.sum _ _ fun d => ((Real'.sum _ _ fun o => hk _ _).div ⟨256, ofBits_256⟩ ?_).mul (hq _ _)
  rw [ofBits_256]; norm_num

/-- One head of the block-sparse attention: query `s`, coordinate `d`. -/
def moba (k q v : Fin 2048 → Fin 128 → EReal) (s : Fin 2048) (d : Fin 128) : EReal :=
  weigh (score (fun r d => k r d * Ideal.ofBits .f32 1035273459#32) q (gate k q) s) (fun r => v r d)

/-- The scores with the scale outside the sum, as they are for finite queries and keys. -/
theorem score_scale (k q : Fin 2048 → Fin 128 → EReal) (g : Fin 8 → Fin 2048 → EReal) (hk : ∀ r d, Real' (k r d))
    (hq : ∀ r d, Real' (q r d)) (s r : Fin 2048) :
    score (fun r d => k r d * Ideal.ofBits .f32 1035273459#32) q g s r
      = by classical exact if Seen g s r then (∑ d, q s d * k r d) * Ideal.ofBits .f32 1035273459#32 else ⊥ := by
  classical
  unfold score
  refine if_congr Iff.rfl ?_ rfl
  rw [sum_mul_real _ _ _ (fun d => (hq s d).mul (hk r d)) ofBits_scale]
  refine Finset.sum_congr rfl fun d _ => ?_
  rw [mul_comm (q s d), mul_right_comm]

end Cert.Moba

end
-- ==== Proof.RefRead.lean ====
/-
  The reference's arrays at an index: the angles, the rotated queries and keys, the block numbers.
-/
module

public import proofs.«01_k».proof.Proof.Gen.ReferenceIdeal.Run
public import proofs.«01_k».proof.Proof.Spec

@[expose] public section

noncomputable section

namespace Cert.Moba.Ref

open Idealize.ShloMosaic Idealize.SL.Sem Cert.ReferenceIdeal Cert.ReferenceIdeal.Value

variable (V : Valuation τ sig (Elt Ideal))

/-- The angle of place `s` of sequence `b` at frequency `f`. -/
def angle (pos : IVec S16x2048 32) (b : Fin 16) (s : Fin 2048) (f : Fin 16) : EReal :=
  (((pos (ix2 b s)).toInt : ℝ) : EReal) * Ideal.pow (Ideal.ofBits .f32 1223959552#32)
    (Ideal.div (-(Ideal.ofBits .f32 1073741824#32 * ((((BitVec.ofNat 32 f.val).toInt : ℝ) : EReal)))) (Ideal.ofBits .f32 1107296256#32))

theorem angle_real (pos : IVec S16x2048 32) (b : Fin 16) (s : Fin 2048) (f : Fin 16) : Real' (angle pos b s f) := by
  have h32 : Ideal.ofBits .f32 1107296256#32 = ((32 : ℝ) : EReal) := by
    simp [Ideal.ofBits, Ideal.ieee, -EReal.coe_mul]; norm_num
  have h2 : Real' (Ideal.ofBits .f32 1073741824#32) := by
    simp only [Ideal.ofBits, Ideal.ieee]; norm_num [-EReal.coe_mul]; exact ⟨_, rfl⟩
  have h5 : Real' (Ideal.ofBits .f32 1223959552#32) := by
    simp only [Ideal.ofBits, Ideal.ieee]; norm_num [-EReal.coe_mul]; exact ⟨_, rfl⟩
  refine Real'.mul ⟨_, rfl⟩ (h5.pow (Real'.div (Real'.neg (h2.mul ⟨_, rfl⟩)) ⟨32, h32⟩ ?_))
  rw [h32]; norm_num

/-- Column `128 g + d` of sequence `b`'s rows. -/
def col (x : FVec Ideal S32768x6144 .f32) (b : Fin 16) (g : Fin 48) (r : Fin 2048) (d : Fin 128) : EReal :=
  x (ix2 ⟨2048 * b.val + r.val, by omega⟩ ⟨128 * g.val + d.val, by omega⟩)

theorem angle_apply (b : Fin 16) (s : Fin 2048) (f : Fin 16) :
    (res_main_v15 V (ix3 b s f) : EReal) = angle (V (Proc.devRef .tc main_arg1)) b s f := by
  pointwise [res_main_v15]
  rfl

/-- An array entry at equal coordinates. -/
theorem entry_congr (x : FVec Ideal S32768x6144 .f32) {i i' : Fin 32768} {j j' : Fin 6144} (h : i.val = i'.val) (h' : j.val = j'.val) :
    (x (ix2 i j) : EReal) = x (ix2 i' j') := by
  rw [Fin.ext h, Fin.ext h']

theorem query_apply (b h : Fin 16) (s : Fin 2048) (d : Fin 128) :
    (res_main_v57 V (ix3 ⟨16 * b.val + h.val, by omega⟩ s d) : EReal)
      = turn (angle (V (Proc.devRef .tc main_arg1)) b) (col (V (Proc.devRef .tc main_arg0)) b ⟨h.val, by omega⟩) s d := by
  pointwise [res_main_v57, res_main_v25, res_main_v26, res_main_v24, res_main_v21, res_main_v20, res_main_v17, res_main_v19]
  simp only [angle_apply]
  unfold turn col
  by_cases h1 : d.val < 16
  · rw [dif_pos (show d.val < 32 by omega), dif_pos h1, dif_pos h1]
    refine congrArg₂ _ (congrArg₂ _ (entry_congr _ ?_ ?_) rfl) (congrArg₂ _ (entry_congr _ ?_ ?_) rfl) <;> simp <;> omega
  · rw [dif_neg h1]
    by_cases h2 : d.val < 32
    · rw [dif_pos h2, dif_neg h1, dif_pos h2]
      refine congrArg₂ _ (congrArg₂ _ (entry_congr _ ?_ ?_) rfl) (congrArg₂ _ (entry_congr _ ?_ ?_) rfl) <;> simp <;> omega
    · rw [dif_neg h2, dif_neg h2]
      refine entry_congr _ ?_ ?_ <;> simp <;> omega

theorem key_apply (b h : Fin 16) (s : Fin 2048) (d : Fin 128) :
    (res_main_v59 V (ix3 ⟨16 * b.val + h.val, by omega⟩ s d) : EReal)
      = turn (angle (V (Proc.devRef .tc main_arg1)) b) (col (V (Proc.devRef .tc main_arg0)) b ⟨16 + h.val, by omega⟩) s d := by
  pointwise [res_main_v59, res_main_v41, res_main_v42, res_main_v40, res_main_v22, res_main_v20, res_main_v17, res_main_v19]
  simp only [angle_apply]
  unfold turn col
  by_cases h1 : d.val < 16
  · rw [dif_pos (show d.val < 32 by omega), dif_pos h1, dif_pos h1]
    refine congrArg₂ _ (congrArg₂ _ (entry_congr _ ?_ ?_) rfl) (congrArg₂ _ (entry_congr _ ?_ ?_) rfl) <;> simp <;> omega
  · rw [dif_neg h1]
    by_cases h2 : d.val < 32
    · rw [dif_pos h2, dif_neg h1, dif_pos h2]
      refine congrArg₂ _ (congrArg₂ _ (entry_congr _ ?_ ?_) rfl) (congrArg₂ _ (entry_congr _ ?_ ?_) rfl) <;> simp <;> omega
    · rw [dif_neg h2, dif_neg h2]
      refine entry_congr _ ?_ ?_ <;> simp <;> omega

/-- The block number of a place. -/
theorem block_apply (q : Fin 2048) : res_main_v67 V (ix1 q) = BitVec.ofNat 32 (q.val / 256) := by
  pointwise [res_main_v67, res_main_v66, res_main_call0_v2, res_main_call0_v0]
  simp only [id, constantI]
  revert q
  decide +kernel

/-- Block `j` lies before place `q`'s own. -/
theorem past_apply (q : Fin 2048) (j : Fin 8) : res_main_v73 V (ix2 q j) = BitVec.ofBool (decide (j.val < q.val / 256)) := by
  pointwise [res_main_v73, res_main_v68]
  rw [block_apply]
  have : ∀ j k : Fin 8, IntOp.cmpi .slt (BitVec.ofNat 32 j.val) (BitVec.ofNat 32 k.val) = BitVec.ofBool (decide (j.val < k.val)) := by
    decide +kernel
  exact this j ⟨q.val / 256, by omega⟩

/-- The value columns. -/
theorem value_apply (b h : Fin 16) (s : Fin 2048) (d : Fin 128) :
    ((shapeCast S256x2048x128 (transpose S16x16x2048x128 [0, 2, 1, 3] (extractStridedSlice S16x2048x16x128 ![0, 0, 32, 0] (res_main_v20 V)
      Gen.slices_S16x2048x48x128_S16x2048x16x128_0_0_32_0) Gen.transposes_S16x2048x16x128_S16x16x2048x128_0_2_1_3)
      Gen.shapeCasts_S16x16x2048x128_S256x2048x128 : FVec Ideal S256x2048x128 .f32) (ix3 ⟨16 * b.val + h.val, by omega⟩ s d) : EReal)
      = col (V (Proc.devRef .tc main_arg0)) b ⟨32 + h.val, by omega⟩ s d := by
  pointwise [res_main_v20]
  refine entry_congr _ ?_ ?_ <;> simp <;> omega

end Cert.Moba.Ref

end
-- ==== Proof.Tables.lean ====
/-
  The two tables the host computes for the kernel, at an index: a row holds its angles' cosines twice and then ones, and
  its angles' sines, first negated, and then zeros.
-/
module

public import proofs.«01_k».proof.Proof.Gen.KernelIdeal.Frame
public import proofs.«01_k».proof.Proof.RefRead
public import Idealize.ShloMosaic.Lib.Pointwise
public import Idealize.ShloMosaic.Lib.StableHlo.ReadAt

@[expose] public section

noncomputable section

open Idealize.ShloMosaic Idealize.ShloMosaic.TcCoe Idealize.SL.Sem

namespace Cert.Moba

open Cert.KernelIdeal Cert.KernelIdeal.Gen

/-- The angle of every row at every frequency, computed from the positions. -/
def anglesOf (p : IVec S16x2048 32) : FVec Ideal S32768x16 .f32 :=
  mulf (broadcastInDim S32768x16 ![0, 1] bcast_S32768x1_S32768x16_0_1
      (shapeCast S32768x1 (sitofp .f32 p) shapeCasts_S16x2048_S32768x1))
    (broadcastInDim S32768x16 ![0, 1] bcast_S1x16_S32768x16_0_1 (broadcastInDim S1x16 ![1] bcast_S16_S1x16_1
      (Host.powf (broadcastInDim S16 ![] bcast_S_S16 (constant S_ .f32 0x48F42400#32))
        (Host.divf (Host.negf (addf (broadcastInDim S16 ![] bcast_S_S16 (constant S_ .f32 0x00000000#32))
            (mulf (broadcastInDim S16 ![] bcast_S_S16 (constant S_ .f32 0x40000000#32)) (sitofp .f32 (iotaInDim S16 32 0)))))
          (broadcastInDim S16 ![] bcast_S_S16 (constant S_ .f32 0x42000000#32))))))

/-- The cosine table of an array of angles. -/
def cosTable (a : FVec Ideal S32768x16 .f32) : FVec Ideal S32768x128 .f32 :=
  concatenate S32768x128 1 [⟨S32768x16, Host.cos a⟩, ⟨S32768x16, Host.cos a⟩,
    ⟨S32768x96, broadcastInDim S32768x96 ![] bcast_S_S32768x96 (constant S_ .f32 0x3F800000#32)⟩]
    concatenates_S32768x16_S32768x16_S32768x96_S32768x128_d1

/-- The sine table of an array of angles. -/
def sinTable (a : FVec Ideal S32768x16 .f32) : FVec Ideal S32768x128 .f32 :=
  concatenate S32768x128 1 [⟨S32768x16, Host.negf (Host.sin a)⟩, ⟨S32768x16, Host.sin a⟩,
    ⟨S32768x96, broadcastInDim S32768x96 ![] bcast_S_S32768x96 (constant S_ .f32 0x00000000#32)⟩]
    concatenates_S32768x16_S32768x16_S32768x96_S32768x128_d1

theorem anglesOf_apply (p : IVec S16x2048 32) (b : Fin 16) (r : Fin 2048) (f : Fin 16) (i : Fin 32768) (hi : i.val = 2048 * b.val + r.val) :
    (anglesOf p (ix2 i f) : EReal) = Ref.angle p b r f := by
  pointwise [anglesOf]
  unfold Ref.angle
  have e0 : i.val / 2048 = b.val := by omega
  have e1 : i.val % 2048 = r.val := by omega
  simp only [e0, e1]
  rfl

theorem cosTable_low (a : FVec Ideal S32768x16 .f32) (i : Fin 32768) (f : Fin 16) :
    (cosTable a (ix2 i ⟨f.val, by omega⟩) : EReal) = Ideal.cos (a (ix2 i f)) := by
  pointwise [cosTable]

theorem cosTable_high (a : FVec Ideal S32768x16 .f32) (i : Fin 32768) (f : Fin 16) :
    (cosTable a (ix2 i ⟨f.val + 16, by omega⟩) : EReal) = Ideal.cos (a (ix2 i f)) := by
  pointwise [cosTable]
  simp

theorem cosTable_rest (a : FVec Ideal S32768x16 .f32) (i : Fin 32768) (d : Fin 128) (hd : 32 ≤ d.val) :
    (cosTable a (ix2 i d) : EReal) = 1 := by
  pointwise [cosTable]
  rw [dif_neg (by omega), dif_neg (by omega)]

theorem sinTable_low (a : FVec Ideal S32768x16 .f32) (i : Fin 32768) (f : Fin 16) :
    (sinTable a (ix2 i ⟨f.val, by omega⟩) : EReal) = -Ideal.sin (a (ix2 i f)) := by
  pointwise [sinTable]

theorem sinTable_high (a : FVec Ideal S32768x16 .f32) (i : Fin 32768) (f : Fin 16) :
    (sinTable a (ix2 i ⟨f.val + 16, by omega⟩) : EReal) = Ideal.sin (a (ix2 i f)) := by
  pointwise [sinTable]
  simp

theorem sinTable_rest (a : FVec Ideal S32768x16 .f32) (i : Fin 32768) (d : Fin 128) (hd : 32 ≤ d.val) :
    (sinTable a (ix2 i d) : EReal) = 0 := by
  pointwise [sinTable]
  rw [dif_neg (by omega), dif_neg (by omega)]

variable (m : (ℓ : Loc nD τ sig) → Buf (Elt Ideal) ℓ)

/-- The positions as launched. -/
abbrev posOf (c : Dev nD) : IVec S16x2048 32 := m ((c : Thread nD τ).loc main_arg1)

theorem entry_angles (c : Dev nD) : V m c main_v15 = anglesOf (posOf m c) := by
  unfold V
  after_reads_simp
  rfl

theorem entry_cos (c : Dev nD) : V m c main_v19 = cosTable (V m c main_v15) := by
  unfold V
  after_reads_simp
  rfl

theorem entry_sin (c : Dev nD) : V m c main_v22 = sinTable (V m c main_v15) := by
  unfold V
  after_reads_simp
  rfl

end Cert.Moba

end
-- ==== Proof.Table.lean ====
/-
  The eight blocks of queries put together: the head's result at a query and a coordinate is the softmax over all 2048
  keys, the keys not seen at minus infinity.
-/
module

public import proofs.«01_k».proof.Proof.Prefix

@[expose] public section

noncomputable section

namespace Cert.Moba

open Idealize.ShloMosaic Idealize.SL.Sem Cert.KernelIdeal Cert.KernelIdeal.Gen

variable (ks : FVec Ideal S2048x128 .bf16) (vT qT : FVec Ideal S128x2048 .bf16) (m : FVec Ideal S8x2048 .f32)
  (g : Fin 8 → Fin 2048 → EReal)

/-- A mark reads one where the block is chosen. -/
def MarksOf : Prop := ∀ (q : Fin 2048) (j : Fin 8), (m (ix2 j q) : EReal) = by classical exact if Chosen g q j then 1 else 0

/-- The score table's entry for the tables' keys and queries. -/
abbrev entry (q r : Fin 2048) : EReal := score (fun r d => ks (ix2 r d)) (fun q d => qT (ix2 d q)) g q r

/-- The own block's entries. -/
theorem own_entry (q : Fin 8) (s : FVec Ideal S256x256 .f32)
    (hs : ∀ r c : Fin 256, (s (ix2 r c) : EReal)
      = ∑ d : Fin 128, (ks (ix2 ⟨256 * q.val + r.val, by omega⟩ d) * qT (ix2 d ⟨256 * q.val + c.val, by omega⟩) : EReal))
    (r c : Fin 256) :
    (ownPart s (ix2 r c) : EReal) = entry ks qT g ⟨256 * q.val + c.val, by omega⟩ ⟨256 * q.val + r.val, by omega⟩ := by
  classical
  rw [ownPart_apply, hs]
  unfold entry score
  refine if_congr ?_ rfl rfl
  constructor
  · intro h
    exact Or.inl ⟨by show (256 * q.val + r.val) / 256 = (256 * q.val + c.val) / 256; omega, by show 256 * q.val + r.val ≤ 256 * q.val + c.val; omega⟩
  · rintro (⟨-, h⟩ | ⟨h, -⟩)
    · have : 256 * q.val + r.val ≤ 256 * q.val + c.val := h
      omega
    · have : (256 * q.val + r.val) / 256 < (256 * q.val + c.val) / 256 := h
      omega

/-- The entries of any block of keys up to the own one. -/
theorem part_entry (hm : MarksOf m g) (q : Fin 8) (s : FVec Ideal (rowsBy (256 * (q.val + 1))) .f32)
    (hs : ∀ (r : Fin (256 * (q.val + 1))) (c : Fin 256), (s (ix2 r c) : EReal)
      = ∑ d : Fin 128, (ks (ix2 ⟨r.val, by omega⟩ d) * qT (ix2 d ⟨256 * q.val + c.val, by omega⟩) : EReal))
    (j : Fin (q.val + 1)) (r c : Fin 256) :
    (scorePart q m s j (ix2 r c) : EReal)
      = entry ks qT g ⟨256 * q.val + c.val, by omega⟩ ⟨256 * j.val + r.val, by omega⟩ := by
  classical
  have hslice : (extractStridedSlice S256x256 ![256 * j.val, 0] s (part_slice q j) (ix2 r c) : EReal)
      = ∑ d : Fin 128, (ks (ix2 ⟨256 * j.val + r.val, by omega⟩ d) * qT (ix2 d ⟨256 * q.val + c.val, by omega⟩) : EReal) := by
    rw [← hs ⟨256 * j.val + r.val, by omega⟩ c]
    refine congrArg s (funext fun a => Fin.ext ?_)
    match a with
    | ⟨0, _⟩ => rfl
    | ⟨1, _⟩ => exact Nat.zero_add _
  unfold scorePart
  by_cases hj : j.val < q.val
  · have hb : Nat.blt j.val q.val = true := by rw [Nat.blt_eq]; exact hj
    rw [hb, cond_true, pastPart_apply, hslice]
    have hmm : (extractStridedSlice S1x256 ![j.val, 256 * q.val] m (mark_slice q ⟨j.val, by omega⟩) (ix2 0 c) : EReal)
        = if Chosen g ⟨256 * q.val + c.val, by omega⟩ ⟨j.val, by omega⟩ then 1 else 0 := by
      rw [← hm ⟨256 * q.val + c.val, by omega⟩ ⟨j.val, by omega⟩]
      refine congrArg m (funext fun a => Fin.ext ?_)
      match a with
      | ⟨0, _⟩ => rfl
      | ⟨1, _⟩ => rfl
    rw [hmm]
    unfold entry score
    have hr : (256 * j.val + r.val) / 256 = j.val := by omega
    have hq : (256 * q.val + c.val) / 256 = q.val := by omega
    refine if_congr ?_ rfl rfl
    have hfin : (⟨(256 * j.val + r.val) / 256, by omega⟩ : Fin 8) = ⟨j.val, by omega⟩ := Fin.ext hr
    constructor
    · intro h
      refine Or.inr ?_
      show Chosen g _ ⟨(256 * j.val + r.val) / 256, _⟩
      rw [hfin]
      by_contra hc
      rw [if_neg hc] at h
      exact lt_irrefl _ h
    · rintro (⟨h, -⟩ | h)
      · have : (256 * j.val + r.val) / 256 = (256 * q.val + c.val) / 256 := h
        omega
      · have h' : Chosen g ⟨256 * q.val + c.val, by omega⟩ ⟨(256 * j.val + r.val) / 256, by omega⟩ := h
        rw [hfin] at h'
        rw [if_pos h']
        exact zero_lt_one
  · have hb : Nat.blt j.val q.val = false := by
      rw [Bool.eq_false_iff]; intro h; exact hj (by rwa [Nat.blt_eq] at h)
    have hjq : j.val = q.val := by omega
    rw [hb, cond_false, own_entry ks qT g q _ (fun r c => ?_) r c]
    · simp only [hjq]
    · have hslice' : (extractStridedSlice S256x256 ![256 * j.val, 0] s (part_slice q j) (ix2 r c) : EReal)
          = s (ix2 ⟨256 * q.val + r.val, by omega⟩ c) := by
        refine congrArg s (funext fun a => Fin.ext ?_)
        match a with
        | ⟨0, _⟩ => show 256 * j.val + r.val = 256 * q.val + r.val; rw [hjq]
        | ⟨1, _⟩ => exact Nat.zero_add _
      rw [hslice', hs]

/-- The whole score table. -/
theorem table_entry (hm : MarksOf m g) (q : Fin 8) (hq : 0 < q.val) (s : FVec Ideal (rowsBy (256 * (q.val + 1))) .f32)
    (hs : ∀ (r : Fin (256 * (q.val + 1))) (c : Fin 256), (s (ix2 r c) : EReal)
      = ∑ d : Fin 128, (ks (ix2 ⟨r.val, by omega⟩ d) * qT (ix2 d ⟨256 * q.val + c.val, by omega⟩) : EReal))
    (r : Fin (256 * (q.val + 1))) (c : Fin 256) :
    (concatenate (rowsBy (256 * (q.val + 1))) 0
      (List.ofFn fun j : Fin (q.val + 1) => ⟨S256x256, scorePart q m s j⟩) (scoreParts_cat q hq fun j => scorePart q m s j) (ix2 r c) : EReal)
      = entry ks qT g ⟨256 * q.val + c.val, by omega⟩ ⟨r.val, by omega⟩ := by
  have h := concatenate_ofFn_apply (t := rowsBy (256 * (q.val + 1))) (s₁ := S256x256) 0 (fun j : Fin (q.val + 1) => scorePart q m s j)
    (scoreParts_cat q hq _) rfl 256 rfl (ix2 r c) ⟨r.val / 256, by omega⟩ rfl (ix2 ⟨r.val % 256, by omega⟩ c) rfl (by
      intro b hb
      match b with
      | ⟨0, _⟩ => exact absurd rfl hb
      | ⟨1, _⟩ => rfl)
  rw [h, part_entry ks qT m g hm q s hs]
  have : 256 * (r.val / 256) + r.val % 256 = r.val := by omega
  simp only [this]

/-- The softmax over the keys up to the own block's end is the one over all. -/
theorem weigh_block (q : Fin 8) (c : Fin 256) (n : ℕ) (hn : n = 256 * (q.val + 1)) (s v : Fin n → EReal) (w : Fin 2048 → EReal)
    (hs : ∀ r : Fin n, s r = entry ks qT g ⟨256 * q.val + c.val, by omega⟩ ⟨r.val, by omega⟩)
    (hv : ∀ r : Fin n, v r = w ⟨r.val, by omega⟩) :
    weigh s v = weigh (entry ks qT g ⟨256 * q.val + c.val, by omega⟩) w := by
  rw [funext hs, funext hv]
  refine weigh_prefix (n := n) (k := 2048 - n) (by omega) (entry ks qT g ⟨256 * q.val + c.val, by omega⟩) w fun r hr => ?_
  refine score_after _ _ _ _ _ ?_
  show (256 * q.val + c.val) / 256 < r.val / 256
  omega

theorem queryBlock_apply (hm : MarksOf m g) (q : Fin 8) (hq : 0 < q.val) (d : Fin 128) (c : Fin 256) :
    (queryBlock q hq ks vT qT m (ix2 d c) : EReal)
      = weigh (entry ks qT g ⟨256 * q.val + c.val, by omega⟩) (fun r => vT (ix2 d r)) := by
  unfold queryBlock
  rw [attend_apply]
  refine weigh_block ks qT g q c _ rfl _ _ _ (fun r => table_entry ks qT m g hm q hq _ (rawScores_apply q ks qT) r c) fun r => ?_
  refine congrArg vT (funext fun a => Fin.ext ?_)
  match a with
  | ⟨0, _⟩ => exact Nat.zero_add _
  | ⟨1, _⟩ => exact Nat.zero_add _

theorem firstBlock_apply (d : Fin 128) (c : Fin 256) :
    (firstBlock ks vT qT (ix2 d c) : EReal)
      = weigh (entry ks qT g ⟨256 * 0 + c.val, by omega⟩) (fun r => vT (ix2 d r)) := by
  unfold firstBlock
  rw [attend_apply]
  refine weigh_block ks qT g 0 c _ rfl _ _ _ (fun r => ?_) fun r => ?_
  · refine (own_entry ks qT g 0 _ (fun r c => ?_) r c).trans ?_
    · refine (rawScores_apply 0 ks qT r c).trans (Finset.sum_congr rfl fun d _ => ?_)
      refine congrArg₂ _ (congrArg (fun i => ks (ix2 i d)) (Fin.ext ?_)) rfl
      exact (Nat.zero_add _).symm
    · exact congrArg (entry ks qT g _) (Fin.ext (Nat.zero_add _))
  · refine congrArg vT (funext fun a => Fin.ext ?_)
    match a with
    | ⟨0, _⟩ => exact Nat.zero_add _
    | ⟨1, _⟩ => exact Nat.zero_add _

theorem lastBlock_apply (hm : MarksOf m g) (d : Fin 128) (c : Fin 256) :
    (lastBlock ks vT qT m (ix2 d c) : EReal)
      = weigh (entry ks qT g ⟨256 * 7 + c.val, by omega⟩) (fun r => vT (ix2 d r)) := by
  unfold lastBlock
  rw [attend_apply]
  refine weigh_block ks qT g 7 c _ rfl _ _ _ (fun r => ?_) fun r => rfl
  refine table_entry ks qT m g hm 7 (by decide) _ (fun r c => ?_) r c
  refine (plain_apply _ _ r c).trans (Finset.sum_congr rfl fun d _ => ?_)
  refine congrArg (ks (ix2 r d) * ·) (congrArg qT (funext fun a => Fin.ext ?_))
  match a with
  | ⟨0, _⟩ => exact Nat.zero_add _
  | ⟨1, _⟩ => rfl

/-- A table turned back upright. -/
theorem upright_apply (x : FVec Ideal S128x2048 .f32) (q : Fin 2048) (d : Fin 128) :
    (truncf .bf16 (transpose S2048x128 [1, 0] x transposes_S128x2048_p1_0_S2048x128) bitsLt_bf16_f32 (ix2 q d) : EReal) = x (ix2 d q) := by
  pointwise

/-- The eight blocks by number. -/
def blockOf (b : Fin 8) : FVec Ideal S128x256 .f32 :=
  match b with
  | 0 => firstBlock ks vT qT | 1 => queryBlock 1 (by decide) ks vT qT m | 2 => queryBlock 2 (by decide) ks vT qT m
  | 3 => queryBlock 3 (by decide) ks vT qT m | 4 => queryBlock 4 (by decide) ks vT qT m | 5 => queryBlock 5 (by decide) ks vT qT m
  | 6 => queryBlock 6 (by decide) ks vT qT m | 7 => lastBlock ks vT qT m

theorem blockOf_apply (hm : MarksOf m g) (b : Fin 8) (d : Fin 128) (c : Fin 256) :
    (blockOf ks vT qT m b (ix2 d c) : EReal)
      = weigh (entry ks qT g ⟨256 * b.val + c.val, by omega⟩) (fun r => vT (ix2 d r)) := by
  match b with
  | 0 => exact firstBlock_apply ks vT qT g d c
  | 1 => exact queryBlock_apply ks vT qT m g hm 1 (by decide) d c
  | 2 => exact queryBlock_apply ks vT qT m g hm 2 (by decide) d c
  | 3 => exact queryBlock_apply ks vT qT m g hm 3 (by decide) d c
  | 4 => exact queryBlock_apply ks vT qT m g hm 4 (by decide) d c
  | 5 => exact queryBlock_apply ks vT qT m g hm 5 (by decide) d c
  | 6 => exact queryBlock_apply ks vT qT m g hm 6 (by decide) d c
  | 7 => exact lastBlock_apply ks vT qT m g hm d c

/-- The head's result at a query and a coordinate. -/
theorem headOf_apply (hm : MarksOf m g) (q : Fin 2048) (d : Fin 128) :
    (headOf ks vT qT m (ix2 q d) : EReal) = weigh (entry ks qT g q) (fun r => vT (ix2 d r)) := by
  unfold headOf
  rw [upright_apply]
  have h := concatenate_ofFn_apply (t := S128x2048) (s₁ := S128x256) 1 (blockOf ks vT qT m)
    concatenates_S128x256_S128x256_S128x256_S128x256_S128x256_S128x256_S128x256_S128x256_S128x2048_d1 rfl 256 rfl (ix2 d q)
    ⟨q.val / 256, by omega⟩ rfl (ix2 d ⟨q.val % 256, by omega⟩) rfl (by
      intro b hb
      match b with
      | ⟨0, _⟩ => rfl
      | ⟨1, _⟩ => exact absurd rfl hb)
  refine Eq.trans h ?_
  rw [blockOf_apply ks vT qT m g hm]
  have : 256 * (q.val / 256) + q.val % 256 = q.val := by omega
  simp only [this]

end Cert.Moba

end
-- ==== Proof.Rows.lean ====
/-
  The kernel's head at a query and a coordinate is the block-sparse attention of Spec.lean.
-/
module

public import proofs.«01_k».proof.Proof.Spec
public import proofs.«01_k».proof.Proof.Table

@[expose] public section

noncomputable section

namespace Cert.Moba

open Idealize.ShloMosaic Idealize.SL.Sem Cert.KernelIdeal Cert.KernelIdeal.Gen

/-- The tables hold the angles' cosines and sines, the sines signed, and leave the other coordinates alone. -/
structure TablesOf (c s : FVec Ideal S2048x128 .f32) (a : Fin 2048 → Fin 16 → EReal) : Prop where
  cosLow : ∀ (r : Fin 2048) (f : Fin 16), (c (ix2 r ⟨f.val, by omega⟩) : EReal) = Ideal.cos (a r f)
  cosHigh : ∀ (r : Fin 2048) (f : Fin 16), (c (ix2 r ⟨f.val + 16, by omega⟩) : EReal) = Ideal.cos (a r f)
  cosRest : ∀ (r : Fin 2048) (d : Fin 128), 32 ≤ d.val → (c (ix2 r d) : EReal) = 1
  sinLow : ∀ (r : Fin 2048) (f : Fin 16), (s (ix2 r ⟨f.val, by omega⟩) : EReal) = -Ideal.sin (a r f)
  sinHigh : ∀ (r : Fin 2048) (f : Fin 16), (s (ix2 r ⟨f.val + 16, by omega⟩) : EReal) = Ideal.sin (a r f)
  sinRest : ∀ (r : Fin 2048) (d : Fin 128), 32 ≤ d.val → (s (ix2 r d) : EReal) = 0

/-- Comparing a coordinate's number with sixteen. -/
theorem slt_16 (d : Fin 128) : IntOp.cmpi .slt (BitVec.ofNat 32 d.val) 16#32 = BitVec.ofBool (decide (d.val < 16)) := by
  revert d; decide +kernel

/-- The kernel's rotation is the rotation. -/
theorem rope_apply {c s : FVec Ideal S2048x128 .f32} {a : Fin 2048 → Fin 16 → EReal} (h : TablesOf c s a)
    (x : FVec Ideal S2048x128 .f32) (r : Fin 2048) (d : Fin 128) :
    (rope c s x (ix2 r d) : EReal) = turn a (fun r d => x (ix2 r d)) r d := by
  pointwise [rope]
  rw [slt_16, select_ofBool]
  unfold turn
  by_cases h1 : d.val < 16
  · rw [if_pos h1, dif_pos h1]
    have e1 : (⟨(d.val + 128 - 112) % 128, by omega⟩ : Fin 128) = ⟨d.val + 16, by omega⟩ := Fin.ext (by show (d.val + 128 - 112) % 128 = d.val + 16; omega)
    have c1 := h.cosLow r ⟨d.val, h1⟩
    have s1 := h.sinLow r ⟨d.val, h1⟩
    simp only [Fin.eta] at c1 s1
    rw [e1, c1, s1, mul_neg, sub_eq_add_neg]
  · rw [if_neg h1, dif_neg h1]
    by_cases h2 : d.val < 32
    · rw [dif_pos h2]
      have e1 : (⟨(d.val + 128 - 16) % 128, by omega⟩ : Fin 128) = ⟨d.val - 16, by omega⟩ := Fin.ext (by show (d.val + 128 - 16) % 128 = d.val - 16; omega)
      have c1 := h.cosHigh r ⟨d.val - 16, by omega⟩
      have s1 := h.sinHigh r ⟨d.val - 16, by omega⟩
      have e2 : (⟨d.val - 16 + 16, by omega⟩ : Fin 128) = d := Fin.ext (by show d.val - 16 + 16 = d.val; omega)
      simp only [e2] at c1 s1
      rw [e1, c1, s1]
    · rw [dif_neg h2, h.cosRest r d (by omega), h.sinRest r d (by omega), mul_one, mul_zero, add_zero]

/-- The gates the kernel forms. -/
theorem gates_apply (kr qr : FVec Ideal S2048x128 .f32) (j : Fin 8) (q : Fin 2048) :
    (gates (kMeans kr) (turned qr) (ix2 j q) : EReal) = gate (fun r d => kr (ix2 r d)) (fun r d => qr (ix2 r d)) j q := by
  pointwise [gates, dot_S8x128_S128x2048_S8x2048_1_0_0_1_n_n]
  unfold gate
  refine Finset.sum_congr rfl fun d _ => ?_
  congr 1
  · pointwise [kMeans]
    pointwise [blockMean]
  · pointwise [turned]

/-- The head is the attention of the rotated queries and keys. -/
theorem head_apply {c s : FVec Ideal S2048x128 .f32} {a : Fin 2048 → Fin 16 → EReal} (h : TablesOf c s a)
    (ha : ∀ r f, Real' (a r f)) (x y z : FVec Ideal S2048x128 .f32) (hx : ∀ r d, Real' (x (ix2 r d)))
    (hy : ∀ r d, Real' (y (ix2 r d))) (q : Fin 2048) (d : Fin 128) :
    (head c s x y z (ix2 q d) : EReal)
      = moba (turn a fun r d => y (ix2 r d)) (turn a fun r d => x (ix2 r d)) (fun r d => z (ix2 r d)) q d := by
  have hk : (fun r d => (rope c s y (ix2 r d) : EReal)) = turn a fun r d => y (ix2 r d) :=
    funext fun r => funext fun d => rope_apply h y r d
  have hq : (fun r d => (rope c s x (ix2 r d) : EReal)) = turn a fun r d => x (ix2 r d) :=
    funext fun r => funext fun d => rope_apply h x r d
  have hg : (fun j q => (gates (kMeans (rope c s y)) (turned (rope c s x)) (ix2 j q) : EReal))
      = gate (turn a fun r d => y (ix2 r d)) (turn a fun r d => x (ix2 r d)) := by
    funext j q; rw [gates_apply, hk, hq]
  have hm : MarksOf (marks (pastGates (gates (kMeans (rope c s y)) (turned (rope c s x)))))
      (gate (turn a fun r d => y (ix2 r d)) (turn a fun r d => x (ix2 r d))) := by
    intro q j
    rw [marks_apply _ q j fun j _ => ?_, hg]
    rw [show (gates (kMeans (rope c s y)) (turned (rope c s x)) (ix2 j q) : EReal) = _ from congrFun (congrFun hg j) q]
    exact (gate_real (turn_real ha hy) (turn_real ha hx) j q).ne_bot
  unfold head
  rw [headOf_apply _ _ _ _ _ hm]
  unfold moba
  have e1 : (fun r d => (scaled (rope c s y) (ix2 r d) : EReal))
      = fun r d => turn a (fun r d => y (ix2 r d)) r d * Ideal.ofBits .f32 1035273459#32 := by
    funext r d
    rw [← hk]
    pointwise [scaled]
  have e2 : (fun q d => (turned (rope c s x) (ix2 d q) : EReal)) = turn a fun r d => x (ix2 r d) := by
    rw [← hq]
    funext q d
    pointwise [turned]
  have e3 : (fun r => (turned z (ix2 d r) : EReal)) = fun r => z (ix2 r d) := by
    funext r
    pointwise [turned]
  rw [e3]
  unfold entry
  rw [e1, e2]

end Cert.Moba

end
-- ==== Proof.Body.lean ====
/-
  The body's two stores are the one function of Head.lean: the first of the first 128 columns of its blocks, the second
  of the last 128. Each statement is by unfolding.
-/
module

public import proofs.«01_k».proof.Proof.Head
public import proofs.«01_k».proof.Proof.Gen.KernelIdeal.Frame

@[expose] public section

noncomputable section

namespace Cert.Moba

open Idealize.ShloMosaic Idealize.SL.Sem Cert.KernelIdeal Cert.KernelIdeal.Gen

variable {F : FTy → Type} [FloatOps F] [Named F]
variable (x0 x1 x2 : Vec F S2048x256 .f32) (x3 x4 : Vec F S2048x128 .f32)

/-- The table of cosines as the body holds it. -/
abbrev cosOf (x3 : Vec F S2048x128 .f32) : FVec F S2048x128 .f32 := shapeCast S2048x128 (View.ld x3 r0_0) shapeCasts_S2048x128_S2048x128
/-- The table of sines as the body holds it. -/
abbrev sinOf (x4 : Vec F S2048x128 .f32) : FVec F S2048x128 .f32 := shapeCast S2048x128 (View.ld x4 r0_0) shapeCasts_S2048x128_S2048x128
/-- The first head's columns of a block. -/
abbrev left (x : Vec F S2048x256 .f32) : FVec F S2048x128 .f32 := View.ld x r0_1
/-- The second head's columns of a block. -/
abbrev right (x : Vec F S2048x256 .f32) : FVec F S2048x128 .f32 := View.ld x r0_2

/-- What the body leaves in the output window's buffer: each head's attention in its columns. -/
theorem out_eq : out0_5 x0 x1 x2 x3 x4 = View.canon
    [⟨r0_2, head (cosOf x3) (sinOf x4) (right x0) (right x1) (right x2)⟩,
     ⟨r0_1, head (cosOf x3) (sinOf x4) (left x0) (left x1) (left x2)⟩] := rfl

end Cert.Moba

end
-- ==== Proof.Blk.lean ====
/-
  Grid point `8 b + p` reads, of sequence `b`, the columns of heads `2 p` and `2 p + 1` of the queries, the keys and the
  values, and the rows of the two tables; it writes the same heads' columns of the result.
-/
module

public import proofs.«01_k».proof.Proof.Tables
public import proofs.«01_k».proof.Proof.Rows
public import proofs.«01_k».proof.Proof.Body
public import Idealize.ShloMosaic.Lib.Pipeline.ValueKit

@[expose] public section

noncomputable section

open Idealize.ShloMosaic Idealize.ShloMosaic.TcCoe Idealize.SL.Sem

namespace Cert.Moba

open Cert.KernelIdeal Cert.KernelIdeal.Gen

variable (m : (ℓ : Loc nD τ sig) → Buf (Elt Ideal) ℓ)

/-- The projected columns as launched. -/
abbrev colsOf (c : Dev nD) : FVec Ideal S32768x6144 .f32 := m ((c : Thread nD τ).loc main_arg0)

/-- The sequence a grid point works on. -/
def seqOf (t : Fin cfg0.N) : Fin 16 := ⟨t.val / 8, by have h : t.val < 128 := t.isLt; omega⟩
/-- The pair of heads it works on. -/
def pairOf (t : Fin cfg0.N) : Fin 8 := ⟨t.val % 8, by omega⟩

/-- Where each window's block lies. -/
theorem index_q : ∀ t : Fin cfg0.N, win0_0.index t (0 : Fin 2) = (seqOf t).val ∧ win0_0.index t (1 : Fin 2) = (pairOf t).val :=
  (by decide +kernel : ∀ t : Fin grid0.N, _)
theorem index_k : ∀ t : Fin cfg0.N, win0_1.index t (0 : Fin 2) = (seqOf t).val ∧ win0_1.index t (1 : Fin 2) = 8 + (pairOf t).val :=
  (by decide +kernel : ∀ t : Fin grid0.N, _)
theorem index_v : ∀ t : Fin cfg0.N, win0_2.index t (0 : Fin 2) = (seqOf t).val ∧ win0_2.index t (1 : Fin 2) = 16 + (pairOf t).val :=
  (by decide +kernel : ∀ t : Fin grid0.N, _)
theorem index_cos : ∀ t : Fin cfg0.N, win0_3.index t (0 : Fin 2) = (seqOf t).val ∧ win0_3.index t (1 : Fin 2) = 0 :=
  (by decide +kernel : ∀ t : Fin grid0.N, _)
theorem index_sin : ∀ t : Fin cfg0.N, win0_4.index t (0 : Fin 2) = (seqOf t).val ∧ win0_4.index t (1 : Fin 2) = 0 :=
  (by decide +kernel : ∀ t : Fin grid0.N, _)
theorem index_o : ∀ t : Fin cfg0.N, win0_5.index t (0 : Fin 2) = (seqOf t).val ∧ win0_5.index t (1 : Fin 2) = (pairOf t).val :=
  (by decide +kernel : ∀ t : Fin grid0.N, _)

/-- Where an index of each window's block lies in the window's array. -/
theorem emb_q (t : Fin cfg0.N) (r : Fin 2048) (d : Fin 256) :
    ((cfg0.win 0).blk t).view.emb (ix2 r d)
      = ix2 ⟨2048 * (seqOf t).val + r.val, by omega⟩ ⟨256 * (pairOf t).val + d.val, by omega⟩ := by
  obtain ⟨e0, e1⟩ := index_q t
  funext a; apply Fin.ext
  match a with
  | ⟨0, _⟩ => show win0_0.index t (0 : Fin 2) * 2048 + 1 * r.val = 2048 * (seqOf t).val + r.val; omega
  | ⟨1, _⟩ => show win0_0.index t (1 : Fin 2) * 256 + 1 * d.val = 256 * (pairOf t).val + d.val; omega
theorem emb_k (t : Fin cfg0.N) (r : Fin 2048) (d : Fin 256) :
    ((cfg0.win 1).blk t).view.emb (ix2 r d)
      = ix2 ⟨2048 * (seqOf t).val + r.val, by omega⟩ ⟨2048 + 256 * (pairOf t).val + d.val, by omega⟩ := by
  obtain ⟨e0, e1⟩ := index_k t
  funext a; apply Fin.ext
  match a with
  | ⟨0, _⟩ => show win0_1.index t (0 : Fin 2) * 2048 + 1 * r.val = 2048 * (seqOf t).val + r.val; omega
  | ⟨1, _⟩ => show win0_1.index t (1 : Fin 2) * 256 + 1 * d.val = 2048 + 256 * (pairOf t).val + d.val; omega
theorem emb_v (t : Fin cfg0.N) (r : Fin 2048) (d : Fin 256) :
    ((cfg0.win 2).blk t).view.emb (ix2 r d)
      = ix2 ⟨2048 * (seqOf t).val + r.val, by omega⟩ ⟨4096 + 256 * (pairOf t).val + d.val, by omega⟩ := by
  obtain ⟨e0, e1⟩ := index_v t
  funext a; apply Fin.ext
  match a with
  | ⟨0, _⟩ => show win0_2.index t (0 : Fin 2) * 2048 + 1 * r.val = 2048 * (seqOf t).val + r.val; omega
  | ⟨1, _⟩ => show win0_2.index t (1 : Fin 2) * 256 + 1 * d.val = 4096 + 256 * (pairOf t).val + d.val; omega
theorem emb_cos (t : Fin cfg0.N) (r : Fin 2048) (d : Fin 128) :
    ((cfg0.win 3).blk t).view.emb (ix2 r d) = ix2 ⟨2048 * (seqOf t).val + r.val, by omega⟩ d := by
  obtain ⟨e0, e1⟩ := index_cos t
  funext a; apply Fin.ext
  match a with
  | ⟨0, _⟩ => show win0_3.index t (0 : Fin 2) * 2048 + 1 * r.val = 2048 * (seqOf t).val + r.val; omega
  | ⟨1, _⟩ => show win0_3.index t (1 : Fin 2) * 128 + 1 * d.val = d.val; omega
theorem emb_sin (t : Fin cfg0.N) (r : Fin 2048) (d : Fin 128) :
    ((cfg0.win 4).blk t).view.emb (ix2 r d) = ix2 ⟨2048 * (seqOf t).val + r.val, by omega⟩ d := by
  obtain ⟨e0, e1⟩ := index_sin t
  funext a; apply Fin.ext
  match a with
  | ⟨0, _⟩ => show win0_4.index t (0 : Fin 2) * 2048 + 1 * r.val = 2048 * (seqOf t).val + r.val; omega
  | ⟨1, _⟩ => show win0_4.index t (1 : Fin 2) * 128 + 1 * d.val = d.val; omega
theorem emb_o (t : Fin cfg0.N) (r : Fin 2048) (d : Fin 256) :
    ((cfg0.win 5).blk t).view.emb (ix2 r d)
      = ix2 ⟨2048 * (seqOf t).val + r.val, by omega⟩ ⟨256 * (pairOf t).val + d.val, by omega⟩ := by
  obtain ⟨e0, e1⟩ := index_o t
  funext a; apply Fin.ext
  match a with
  | ⟨0, _⟩ => show win0_5.index t (0 : Fin 2) * 2048 + 1 * r.val = 2048 * (seqOf t).val + r.val; omega
  | ⟨1, _⟩ => show win0_5.index t (1 : Fin 2) * 256 + 1 * d.val = 256 * (pairOf t).val + d.val; omega

/-- The blocks read at an index. -/
theorem read_q (c : Dev nD) (t : Fin cfg0.N) (r : Fin 2048) (d : Fin 256) :
    iblk m c 0 t (ix2 r d) = colsOf m c (ix2 ⟨2048 * (seqOf t).val + r.val, by omega⟩ ⟨256 * (pairOf t).val + d.val, by omega⟩) := by
  show V m c main_arg0 (((cfg0.win 0).blk t).view.emb (ix2 r d)) = _
  rw [emb_q, V_main_arg0]
theorem read_k (c : Dev nD) (t : Fin cfg0.N) (r : Fin 2048) (d : Fin 256) :
    iblk m c 1 t (ix2 r d) = colsOf m c (ix2 ⟨2048 * (seqOf t).val + r.val, by omega⟩ ⟨2048 + 256 * (pairOf t).val + d.val, by omega⟩) := by
  show V m c main_arg0 (((cfg0.win 1).blk t).view.emb (ix2 r d)) = _
  rw [emb_k, V_main_arg0]
theorem read_v (c : Dev nD) (t : Fin cfg0.N) (r : Fin 2048) (d : Fin 256) :
    iblk m c 2 t (ix2 r d) = colsOf m c (ix2 ⟨2048 * (seqOf t).val + r.val, by omega⟩ ⟨4096 + 256 * (pairOf t).val + d.val, by omega⟩) := by
  show V m c main_arg0 (((cfg0.win 2).blk t).view.emb (ix2 r d)) = _
  rw [emb_v, V_main_arg0]
theorem read_cos (c : Dev nD) (t : Fin cfg0.N) (r : Fin 2048) (d : Fin 128) :
    iblk m c 3 t (ix2 r d) = cosTable (anglesOf (posOf m c)) (ix2 ⟨2048 * (seqOf t).val + r.val, by omega⟩ d) := by
  show V m c main_v19 (((cfg0.win 3).blk t).view.emb (ix2 r d)) = _
  rw [emb_cos, entry_cos, entry_angles]
theorem read_sin (c : Dev nD) (t : Fin cfg0.N) (r : Fin 2048) (d : Fin 128) :
    iblk m c 4 t (ix2 r d) = sinTable (anglesOf (posOf m c)) (ix2 ⟨2048 * (seqOf t).val + r.val, by omega⟩ d) := by
  show V m c main_v22 (((cfg0.win 4).blk t).view.emb (ix2 r d)) = _
  rw [emb_sin, entry_sin, entry_angles]

/-- A piece of a block at an index. -/
theorem left_apply (x : Vec Ideal S2048x256 .f32) (r : Fin 2048) (d : Fin 128) :
    left x (ix2 r d) = x (ix2 r ⟨d.val, by omega⟩) := by
  refine congrArg x (funext fun a => Fin.ext ?_)
  match a with
  | ⟨0, _⟩ => show 0 + 1 * r.val = r.val; omega
  | ⟨1, _⟩ => show 0 + 1 * d.val = d.val; omega
theorem right_apply (x : Vec Ideal S2048x256 .f32) (r : Fin 2048) (d : Fin 128) :
    right x (ix2 r d) = x (ix2 r ⟨128 + d.val, by omega⟩) := by
  refine congrArg x (funext fun a => Fin.ext ?_)
  match a with
  | ⟨0, _⟩ => show 0 + 1 * r.val = r.val; omega
  | ⟨1, _⟩ => show 128 + 1 * d.val = 128 + d.val; omega
theorem cosOf_apply (x : Vec Ideal S2048x128 .f32) (r : Fin 2048) (d : Fin 128) : cosOf x (ix2 r d) = x (ix2 r d) := by
  show shapeCast S2048x128 (View.ld x r0_0) _ (ix2 r d) = _
  pointwise
theorem sinOf_apply (x : Vec Ideal S2048x128 .f32) (r : Fin 2048) (d : Fin 128) : sinOf x (ix2 r d) = x (ix2 r d) :=
  cosOf_apply x r d

/-- The tables a point reads are those of its sequence's angles. -/
theorem tables_at (c : Dev nD) (t : Fin cfg0.N) :
    TablesOf (cosOf (iblk m c 3 t)) (sinOf (iblk m c 4 t)) (Ref.angle (posOf m c) (seqOf t)) where
  cosLow r f := by
    rw [cosOf_apply, read_cos, cosTable_low, anglesOf_apply _ (seqOf t) r f _ rfl]
  cosHigh r f := by
    rw [cosOf_apply, read_cos, cosTable_high, anglesOf_apply _ (seqOf t) r f _ rfl]
  cosRest r d hd := by
    rw [cosOf_apply, read_cos, cosTable_rest _ _ _ hd]
  sinLow r f := by
    rw [sinOf_apply, read_sin, sinTable_low, anglesOf_apply _ (seqOf t) r f _ rfl]
  sinHigh r f := by
    rw [sinOf_apply, read_sin, sinTable_high, anglesOf_apply _ (seqOf t) r f _ rfl]
  sinRest r d hd := by
    rw [sinOf_apply, read_sin, sinTable_rest _ _ _ hd]

end Cert.Moba

end
-- ==== Proof.RefHead.lean ====
/-
  The reference's result at an index is the block-sparse attention of Spec.lean.
-/
module

public import proofs.«01_k».proof.Proof.RefRead
public import Idealize.ShloMosaic.Lib.Routing.OpsOrder

@[expose] public section

noncomputable section

namespace Cert.Moba.Ref

open Idealize.ShloMosaic Idealize.SL.Sem Cert.ReferenceIdeal Cert.ReferenceIdeal.Value

variable (V : Valuation τ sig (Elt Ideal))

/-- The rotated queries and keys of head `h` of sequence `b`, and its values. -/
abbrev Q (b h : Fin 16) : Fin 2048 → Fin 128 → EReal :=
  turn (angle (V (Proc.devRef .tc main_arg1)) b) (col (V (Proc.devRef .tc main_arg0)) b ⟨h.val, by omega⟩)

abbrev K (b h : Fin 16) : Fin 2048 → Fin 128 → EReal :=
  turn (angle (V (Proc.devRef .tc main_arg1)) b) (col (V (Proc.devRef .tc main_arg0)) b ⟨16 + h.val, by omega⟩)

/-- A table of gates masked by truth values, at an index. -/
theorem masked_gates (p : IVec S2048x8 1) (x y : FVec Ideal S256x2048x128 .f32) (n : Fin 256) (q : Fin 2048) (j : Fin 8) :
    ((select (broadcastInDim S256x2048x8 ![1, 2] Gen.bcast_S2048x8_S256x2048x8_1_2 p) (Host.dotGeneral dot_S256x2048x128_S256x8x128_S256x2048x8_2_2_1_1_0_0 none x (Host.divf (Host.reduceAdd (shapeCast S256x8x256x128 y Gen.shapeCasts_S256x2048x128_S256x8x256x128) (constant S_ .f32 0x00000000#32) Gen.reducesTo_S256x8x256x128_S256x8x128_d2 Gen.h_S_) (broadcastInDim S256x8x128 ![] Gen.bcast_S_S256x8x128 (constant S_ .f32 0x43800000#32)))) (broadcastInDim S256x2048x8 ![] Gen.bcast_S_S256x2048x8 (id (constant S_ .f32 0xFF800000#32))) : FVec Ideal S256x2048x8 .f32) (ix3 n q j) : EReal)
      = Scalar.select (p (ix2 q j)) (∑ d : Fin 128, ((x (ix3 n q d) : EReal) * Ideal.div (∑ o : Fin 256, (y (ix3 n ⟨256 * j.val + o.val, by omega⟩ d) : EReal)) (Ideal.ofBits .f32 1132462080#32))) ⊥ := by
  have hm : ∀ o : Fin 256, (⟨j.val * 256 + o.val, by omega⟩ : Fin 2048) = ⟨256 * j.val + o.val, by omega⟩ :=
    fun o => Fin.ext (by show j.val * 256 + o.val = 256 * j.val + o.val; omega)
  have hb : (id (constant S_ .f32 4286578688#32 : FVec Ideal S_ .f32) ix0 : EReal) = ⊥ := ofBits_bot
  pointwise [dot_S256x2048x128_S256x8x128_S256x2048x8_2_2_1_1_0_0]
  simp only [hm, hb]

/-- The masked gates. -/
theorem gate_apply (b h : Fin 16) (q : Fin 2048) (j : Fin 8) :
    (res_main_v75 V (ix3 ⟨16 * b.val + h.val, by omega⟩ q j) : EReal) = pastScores (gate (K V b h) (Q V b h)) q j := by
  refine (masked_gates (res_main_v73 V) (res_main_v57 V) (res_main_v59 V) _ q j).trans ?_
  rw [past_apply, select_ofBool]
  unfold pastScores gate
  refine if_congr Iff.rfl (Finset.sum_congr rfl fun d _ => ?_) rfl
  rw [mul_comm, query_apply]
  refine congrArg₂ _ (congrArg₂ _ (Finset.sum_congr rfl fun o _ => ?_) rfl) rfl
  rw [key_apply]

/-- The greatest three's places, read as a sort. -/
theorem top_apply (x : FVec Ideal S256x2048x8 .f32) (n : Fin 256) (q : Fin 2048) (t : Fin 3) :
    (Host.topK S256x2048x3 2 (FloatOps.cmpfTotal .gt) x Gen.sliceFits_S256x2048x8_S256x2048x3).2 (ix3 n q t)
      = BitVec.ofNat 32 (sortedFrom (fun i j : Fin 8 => decide ((x (ix3 n q j) : EReal) < x (ix3 n q i))) (t.castLE (by decide))).val := by
  have hc : ∀ a b : Ideal .f32, (FloatOps.cmpfTotal .gt a b == 1#1) = decide ((b : EReal) < a) := by
    intro a b
    show (BitVec.ofBool (decide ((b : EReal) < a)) == 1#1) = _
    by_cases h : (b : EReal) < a <;> simp [h]
  have hi : ∀ k : Fin 8, Shape.Idx.along (s := S256x2048x8) (ix3 n q (t.castLE (by decide))) 2 k = ix3 n q k := by
    intro k; funext a
    match a with
    | ⟨0, _⟩ => rfl
    | ⟨1, _⟩ => rfl
    | ⟨2, _⟩ => rfl
  have hJ : ∀ J : S256x2048x8.Idx, J = ix3 n q (t.castLE (by decide)) →
      (Host.sort2 S256x2048x8 2 (fun l r => FloatOps.cmpfTotal .gt l.1 r.1) x
        (fun i => if hd : 2 < S256x2048x8.rank then iotaInDim S256x2048x8 32 ⟨2, hd⟩ i else 0#32)).2 J
        = BitVec.ofNat 32 (sortedFrom (fun i j : Fin 8 => decide ((x (ix3 n q j) : EReal) < x (ix3 n q i))) (t.castLE (by decide))).val := by
    rintro J rfl
    show BitVec.ofNat 32 (sortedFrom (fun k k' : Fin 8 => FloatOps.cmpfTotal .gt
      (x (Shape.Idx.along (s := S256x2048x8) (ix3 n q (t.castLE (by decide))) 2 k))
      (x (Shape.Idx.along (s := S256x2048x8) (ix3 n q (t.castLE (by decide))) 2 k')) == 1#1) (t.castLE (by decide))).val = _
    simp only [hi, hc]
  refine hJ _ (funext fun a => Fin.ext ?_)
  match a with
  | ⟨0, _⟩ => exact Nat.zero_add _
  | ⟨1, _⟩ => exact Nat.zero_add _
  | ⟨2, _⟩ => exact Nat.zero_add _

/-- Whether block `j` is among the greatest three of row `q`. -/
theorem picked_apply (x : FVec Ideal S256x2048x8 .f32) (n : Fin 256) (q : Fin 2048) (j : Fin 8) :
    Finset.fold IntOp.ori (0#1) (fun t => IntOp.cmpi .eq
        ((Host.topK S256x2048x3 2 (FloatOps.cmpfTotal .gt) x Gen.sliceFits_S256x2048x8_S256x2048x3).2 (ix3 n q t))
        (BitVec.ofNat 32 j.val)) Finset.univ
      = BitVec.ofBool (decide (rank (fun j : Fin 8 => (x (ix3 n q j) : EReal)) j < 3)) := by
  have hb : ∀ u v : BitVec 1, (u = 1#1 ↔ v = 1#1) → u = v := by decide
  refine hb _ _ ?_
  have hw : ∀ k j : Fin 8, IntOp.cmpi .eq (BitVec.ofNat 32 k.val) (BitVec.ofNat 32 j.val) = 1#1 ↔ k = j := by decide +kernel
  have hr := exists_sortedFrom_iff (fun j : Fin 8 => (x (ix3 n q j) : EReal)) 3 (by decide) j
  rw [Routing.fold_ori, show (BitVec.ofBool (decide (rank (fun j : Fin 8 => (x (ix3 n q j) : EReal)) j < 3)) = 1#1)
    = (rank (fun j : Fin 8 => (x (ix3 n q j) : EReal)) j < 3) by
      by_cases h : rank (fun j : Fin 8 => (x (ix3 n q j) : EReal)) j < 3 <;> simp [h], ← hr]
  constructor
  · rintro ⟨t, -, ht⟩
    rw [top_apply, hw] at ht
    exact ⟨t, ht⟩
  · rintro ⟨t, ht⟩
    refine ⟨t, Finset.mem_univ _, ?_⟩
    rw [top_apply, hw]
    exact ht

theorem andi_ofBool (p q : Bool) : IntOp.andi (BitVec.ofBool p) (BitVec.ofBool q) = BitVec.ofBool (p && q) := by
  cases p <;> cases q <;> rfl

theorem ori_ofBool (p q : Bool) : IntOp.ori (BitVec.ofBool p) (BitVec.ofBool q) = BitVec.ofBool (p || q) := by
  cases p <;> cases q <;> rfl

theorem select_bool {α : Type} (p : Bool) (x y : α) : Scalar.select (BitVec.ofBool p) x y = if p = true then x else y := by
  cases p <;> rfl

/-- Places compared as words. -/
theorem sle_apply (r q : Fin 2048) : IntOp.cmpi .sle (BitVec.ofNat 32 r.val) (BitVec.ofNat 32 q.val) = BitVec.ofBool (decide (r.val ≤ q.val)) := by
  have h : ∀ r : Fin 2048, (BitVec.ofNat 32 r.val).toInt = (r.val : ℤ) := by decide +kernel
  show BitVec.ofBool (decide ((BitVec.ofNat 32 r.val).toInt ≤ (BitVec.ofNat 32 q.val).toInt)) = _
  rw [h, h]; simp only [Nat.cast_le]

/-- Block numbers compared as words. -/
theorem eq_apply (j k : Fin 8) : IntOp.cmpi .eq (BitVec.ofNat 32 j.val) (BitVec.ofNat 32 k.val) = BitVec.ofBool (decide (j.val = k.val)) := by
  revert j k; decide +kernel

/-- A table of scores masked by two truth tables, at an index. -/
theorem masked_scores (p : IVec S256x2048x8 1) (p' : IVec S2048x2048 1) (x y : FVec Ideal S256x2048x128 .f32) (n : Fin 256) (q r : Fin 2048) :
    ((select (ori (shapeCast S256x2048x2048 (broadcastInDim S256x2048x8x256 ![0, 1, 2] Gen.bcast_S256x2048x8_S256x2048x8x256_0_1_2 p) Gen.shapeCasts_S256x2048x8x256_S256x2048x2048) (broadcastInDim S256x2048x2048 ![0, 1, 2] Gen.bcast_S1x2048x2048_S256x2048x2048_0_1_2 (broadcastInDim S1x2048x2048 ![1, 2] Gen.bcast_S2048x2048_S1x2048x2048_1_2 p'))) (mulf (Host.dotGeneral dot_S256x2048x128_S256x2048x128_S256x2048x2048_2_2_1_1_0_0 none x y) (broadcastInDim S256x2048x2048 ![] Gen.bcast_S_S256x2048x2048 (constant S_ .f32 0x3DB504F3#32))) (broadcastInDim S256x2048x2048 ![] Gen.bcast_S_S256x2048x2048 (id (constant S_ .f32 0xFF800000#32))) : FVec Ideal S256x2048x2048 .f32) (ix3 n q r) : EReal)
      = Scalar.select (IntOp.ori (p (ix3 n q ⟨r.val / 256, by omega⟩)) (p' (ix2 q r)))
        ((∑ d : Fin 128, (x (ix3 n q d) : EReal) * y (ix3 n r d)) * Ideal.ofBits .f32 1035273459#32) ⊥ := by
  have hb : (id (constant S_ .f32 4286578688#32 : FVec Ideal S_ .f32) ix0 : EReal) = ⊥ := ofBits_bot
  pointwise [dot_S256x2048x128_S256x2048x128_S256x2048x2048_2_2_1_1_0_0]
  simp only [hb]

/-- The chosen blocks' truth table, at an index. -/
theorem picked_table (x : FVec Ideal S256x2048x8 .f32) (w : IVec S8 32) (p : IVec S2048x8 1) (n : Fin 256) (q : Fin 2048) (j : Fin 8) :
    (andi (Host.reduce IntOp.ori (cmpi .eq (broadcastInDim S256x2048x3x8 ![0, 1, 2, 3] Gen.bcast_S256x2048x3x1_S256x2048x3x8_0_1_2_3 (broadcastInDim S256x2048x3x1 ![0, 1, 2] Gen.bcast_S256x2048x3_S256x2048x3x1_0_1_2 ((Host.topK S256x2048x3 2 (FloatOps.cmpfTotal .gt) x Gen.sliceFits_S256x2048x8_S256x2048x3).2))) (broadcastInDim S256x2048x3x8 ![0, 1, 2, 3] Gen.bcast_S1x1x1x8_S256x2048x3x8_0_1_2_3 (broadcastInDim S1x1x1x8 ![3] Gen.bcast_S8_S1x1x1x8_3 w))) (constantI S_ 1 0#1) Gen.reducesTo_S256x2048x3x8_S256x2048x8_d2 Gen.h_S_) (broadcastInDim S256x2048x8 ![0, 1, 2] Gen.bcast_S1x2048x8_S256x2048x8_0_1_2 (broadcastInDim S1x2048x8 ![1, 2] Gen.bcast_S2048x8_S1x2048x8_1_2 p))) (ix3 n q j)
      = IntOp.andi (Finset.fold IntOp.ori (0#1) (fun t => IntOp.cmpi .eq
          ((Host.topK S256x2048x3 2 (FloatOps.cmpfTotal .gt) x Gen.sliceFits_S256x2048x8_S256x2048x3).2 (ix3 n q t))
          (w (ix1 j))) Finset.univ) (p (ix2 q j)) := by
  pointwise

/-- The own block's truth table, at an index. -/
theorem own_table (w : IVec S2048 32) (q r : Fin 2048) :
    (andi (cmpi .sle (broadcastInDim S2048x2048 ![0, 1] Gen.bcast_S1x2048_S2048x2048_0_1 (broadcastInDim S1x2048 ![1] Gen.bcast_S2048_S1x2048_1 (iotaInDim S2048 32 0))) (broadcastInDim S2048x2048 ![0, 1] Gen.bcast_S2048x1_S2048x2048_0_1 (broadcastInDim S2048x1 ![0] Gen.bcast_S2048_S2048x1_0 (iotaInDim S2048 32 0)))) (cmpi .eq (broadcastInDim S2048x2048 ![0, 1] Gen.bcast_S1x2048_S2048x2048_0_1 (broadcastInDim S1x2048 ![1] Gen.bcast_S2048_S1x2048_1 w)) (broadcastInDim S2048x2048 ![0, 1] Gen.bcast_S2048x1_S2048x2048_0_1 (broadcastInDim S2048x1 ![0] Gen.bcast_S2048_S2048x1_0 w)))) (ix2 q r)
      = IntOp.andi (IntOp.cmpi .sle (BitVec.ofNat 32 r.val) (BitVec.ofNat 32 q.val)) (IntOp.cmpi .eq (w (ix1 r)) (w (ix1 q))) := by
  pointwise

/-- The masked scores. -/
theorem score_apply (b h : Fin 16) (hQ : ∀ r d, Real' (Q V b h r d)) (hK : ∀ r d, Real' (K V b h r d)) (q r : Fin 2048) :
    (res_main_v106 V (ix3 ⟨16 * b.val + h.val, by omega⟩ q r) : EReal)
      = score (fun r d => K V b h r d * Ideal.ofBits .f32 1035273459#32) (Q V b h) (gate (K V b h) (Q V b h)) q r := by
  classical
  rw [score_scale _ _ _ hK hQ]
  refine (masked_scores _ _ (res_main_v57 V) (res_main_v59 V) _ q r).trans ?_
  have hn : res_main_v68 V (ix1 ⟨r.val / 256, by omega⟩) = BitVec.ofNat 32 (⟨r.val / 256, by omega⟩ : Fin 8).val := rfl
  have hg : (fun j : Fin 8 => (res_main_v75 V (ix3 ⟨16 * b.val + h.val, by omega⟩ q j) : EReal)) = pastScores (gate (K V b h) (Q V b h)) q :=
    funext fun j => gate_apply V b h q j
  have hp := picked_apply (res_main_v75 V) ⟨16 * b.val + h.val, by omega⟩ q ⟨r.val / 256, by omega⟩
  rw [hg] at hp
  have he := eq_apply ⟨r.val / 256, by omega⟩ ⟨q.val / 256, by omega⟩
  rw [picked_table, own_table, hn, hp, past_apply, block_apply, block_apply, sle_apply, he, andi_ofBool, andi_ofBool, ori_ofBool, select_bool]
  refine if_congr ?_ ?_ rfl
  · simp only [Bool.or_eq_true, Bool.and_eq_true, decide_eq_true_eq]
    unfold Seen Chosen
    constructor
    · rintro (⟨h1, h2⟩ | ⟨h1, h2⟩)
      · exact Or.inr ⟨h2, h1⟩
      · exact Or.inl ⟨h2, h1⟩
    · rintro (⟨h1, h2⟩ | ⟨h1, h2⟩)
      · exact Or.inr ⟨h2, h1⟩
      · exact Or.inl ⟨h2, h1⟩
  · refine congrArg (· * _) (Finset.sum_congr rfl fun d _ => ?_)
    rw [query_apply, key_apply]

/-- A table's exponentials after its rows' greatest entries are taken off, at an index. -/
theorem exp_table (x : FVec Ideal S256x2048x2048 .f32) (n : Fin 256) (q r : Fin 2048) :
    (Host.exp (subf x (broadcastInDim S256x2048x2048 ![0, 1, 2] Gen.bcast_S256x2048x1_S256x2048x2048_0_1_2 (broadcastInDim S256x2048x1 ![0, 1] Gen.bcast_S256x2048_S256x2048x1_0_1 (Host.reduce FloatOps.maximumf x (constant S_ .f32 0xFF800000#32) Gen.reducesTo_S256x2048x2048_S256x2048_d2 Gen.h_S_)))) (ix3 n q r) : EReal)
      = Ideal.exp (x (ix3 n q r) - Finset.univ.fold max ⊥ (fun r : Fin 2048 => (x (ix3 n q r) : EReal))) := by
  pointwise
  rw [ofBits_bot]

/-- The exponentials. -/
theorem exp_apply (b h : Fin 16) (hQ : ∀ r d, Real' (Q V b h r d)) (hK : ∀ r d, Real' (K V b h r d)) (q r : Fin 2048) :
    (res_main_v111 V (ix3 ⟨16 * b.val + h.val, by omega⟩ q r) : EReal)
      = Ideal.exp (score (fun r d => K V b h r d * Ideal.ofBits .f32 1035273459#32) (Q V b h) (gate (K V b h) (Q V b h)) q r
        - Finset.univ.fold max ⊥ (score (fun r d => K V b h r d * Ideal.ofBits .f32 1035273459#32) (Q V b h) (gate (K V b h) (Q V b h)) q)) := by
  refine (exp_table (res_main_v106 V) _ q r).trans ?_
  have e : (fun r : Fin 2048 => (res_main_v106 V (ix3 ⟨16 * b.val + h.val, by omega⟩ q r) : EReal))
      = score (fun r d => K V b h r d * Ideal.ofBits .f32 1035273459#32) (Q V b h) (gate (K V b h) (Q V b h)) q :=
    funext fun r => score_apply V b h hQ hK q r
  rw [e]
  exact congrArg (fun t => Ideal.exp (t - _)) (score_apply V b h hQ hK q r)

/-- The reference's result array. -/
def result : FVec Ideal S32768x2048 .bf16 :=
  truncf .bf16 (shapeCast S32768x2048 (transpose S16x2048x16x128 [0, 2, 1, 3] (shapeCast S16x16x2048x128 (Host.divf (Host.dotGeneral (φ₁ := .f32) (φ₂ := .f32) dot_S256x2048x2048_S256x2048x128_S256x2048x128_2_1_1_2_0_0 none (res_main_v111 V) (shapeCast S256x2048x128 (transpose S16x16x2048x128 [0, 2, 1, 3] (extractStridedSlice S16x2048x16x128 ![0, 0, 32, 0] (res_main_v20 V) Gen.slices_S16x2048x48x128_S16x2048x16x128_0_0_32_0) Gen.transposes_S16x2048x16x128_S16x16x2048x128_0_2_1_3) Gen.shapeCasts_S16x16x2048x128_S256x2048x128)) (broadcastInDim S256x2048x128 ![0, 1, 2] Gen.bcast_S256x2048x1_S256x2048x128_0_1_2 (broadcastInDim S256x2048x1 ![0, 1] Gen.bcast_S256x2048_S256x2048x1_0_1 (Host.reduceAdd (res_main_v111 V) (constant S_ .f32 0x00000000#32) Gen.reducesTo_S256x2048x2048_S256x2048_d2 Gen.h_S_)))) Gen.shapeCasts_S256x2048x128_S16x16x2048x128) Gen.transposes_S16x16x2048x128_S16x2048x16x128_0_2_1_3) Gen.shapeCasts_S16x2048x16x128_S32768x2048) Gen.bitsLt_bf16_f32

/-- Its entries. -/
theorem result_apply (b h : Fin 16) (hQ : ∀ r d, Real' (Q V b h r d)) (hK : ∀ r d, Real' (K V b h r d)) (q : Fin 2048) (d : Fin 128) :
    (result V (ix2 ⟨2048 * b.val + q.val, by omega⟩ ⟨128 * h.val + d.val, by omega⟩) : EReal)
      = moba (K V b h) (Q V b h) (col (V (Proc.devRef .tc main_arg0)) b ⟨32 + h.val, by omega⟩) q d := by
  pointwise [result, dot_S256x2048x2048_S256x2048x128_S256x2048x128_2_1_1_2_0_0]
  have hn : (⟨b.val * 16 + h.val, by omega⟩ : Fin 256) = ⟨16 * b.val + h.val, by omega⟩ := Fin.ext (by show b.val * 16 + h.val = 16 * b.val + h.val; omega)
  have hv : ∀ x : Fin 2048, (res_main_v20 V (ix4 b x ⟨32 + h.val, by omega⟩ d) : EReal) = col (V (Proc.devRef .tc main_arg0)) b ⟨32 + h.val, by omega⟩ x d := by
    intro x
    pointwise [res_main_v20]
    refine entry_congr _ ?_ ?_ <;> simp <;> omega
  simp only [hn, hv, exp_apply V b h hQ hK]
  unfold moba weigh
  refine congrArg₂ _ (Finset.sum_congr rfl fun r _ => mul_comm _ _) rfl

end Cert.Moba.Ref

end
-- ==== Proof.Finite.lean ====
/-
  What the precondition says of an entry: every query and every key read is a real number.
-/
module

public import proofs.«01_k».proof.Proof.Frames
public import proofs.«01_k».proof.Proof.RefHead
public import proofs.«01_k».proof.Proof.Words
public import Idealize.ShloMosaic.Lib.Pointwise
public import Idealize.ShloMosaic.Lib.ReduceAll

@[expose] public section

noncomputable section

open Idealize.ShloMosaic Idealize.SL.Sem

namespace Cert.Moba

/-- A number whose size is below infinity is real. -/
theorem real_of_abs (x : EReal) (h : (FloatOps.cmpf (F := Ideal) (φ := .f32) .olt (FloatOps.hostAbsf (F := Ideal) (φ := .f32) x) (Ideal.ofBits .f32 0x7F800000#32)) = 1#1) : Real' x := by
  rw [ofBits_top] at h
  induction x using EReal.rec with
  | bot => exfalso; revert h; simp [FloatOps.cmpf, FloatOps.hostAbsf, Ideal.cmp]
  | coe r => exact ⟨r, rfl⟩
  | top => exfalso; revert h; simp [FloatOps.cmpf, FloatOps.hostAbsf, Ideal.cmp]

/-- Where the precondition holds, an entry in the first 4096 columns is real. -/
theorem real_of_pre (x : FVec Ideal Cert.ReferenceIdeal.S32768x6144 .f32) (p : IVec Cert.ReferenceIdeal.S16x2048 32)
    (h : (letI := preFacts; Cert.Pre_finite_queries_and_keys.fn (F := Ideal) x p) = fun _ => 1#1)
    (i : Fin 32768) (d : Fin 4096) : Real' (x (ix2 i ⟨d.val, by omega⟩)) := by
  have h0 := congrFun h (fun a => a.elim0)
  dsimp only [Cert.Pre_finite_queries_and_keys.fn] at h0
  haveI : Subsingleton Cert.Pre_finite_queries_and_keys.S_.Idx := ⟨fun a b => funext fun k => k.elim0⟩
  have h1 := Host.reduce_andi_all _ _ _ _ _ h0 (ix2 i d)
  refine real_of_abs _ (Eq.trans ?_ h1)
  pointwise
  try rfl

/-- So every column of a query head or a key head is. -/
theorem real_col (x : FVec Ideal Cert.ReferenceIdeal.S32768x6144 .f32) (p : IVec Cert.ReferenceIdeal.S16x2048 32)
    (h : (letI := preFacts; Cert.Pre_finite_queries_and_keys.fn (F := Ideal) x p) = fun _ => 1#1)
    (b : Fin 16) (g : Fin 48) (hg : g.val < 32) (r : Fin 2048) (d : Fin 128) : Real' (Ref.col x b g r d) :=
  real_of_pre x p h ⟨2048 * b.val + r.val, by omega⟩ ⟨128 * g.val + d.val, by omega⟩

end Cert.Moba

end
-- ==== Proof.Whole.lean ====
/-
  The two programs' results are one array: at every grid point what the kernel writes back is its block of the
  reference's result, and the blocks cover the array.
-/
module

public import proofs.«01_k».proof.Proof.Blk
public import proofs.«01_k».proof.Proof.Finite
public import proofs.«01_k».proof.Proof.Gen.KernelIdeal.Value

@[expose] public section

noncomputable section

open Idealize.ShloMosaic Idealize.ShloMosaic.TcCoe Idealize.SL.Sem

namespace Cert.Moba

open Cert.KernelIdeal Cert.KernelIdeal.Gen

variable (m : (ℓ : Loc nD τ sig) → Buf (Elt Ideal) ℓ)

/-- One head's attention, from the projected columns and the positions. -/
def headOut (x : FVec Ideal S32768x6144 .f32) (p : IVec S16x2048 32) (b h : Fin 16) (q : Fin 2048) (d : Fin 128) : EReal :=
  moba (turn (Ref.angle p b) (Ref.col x b ⟨16 + h.val, by omega⟩)) (turn (Ref.angle p b) (Ref.col x b ⟨h.val, by omega⟩))
    (Ref.col x b ⟨32 + h.val, by omega⟩) q d

/-- The first and the second head of a pair. -/
def firstOf (p : Fin 8) : Fin 16 := ⟨2 * p.val, by omega⟩
def secondOf (p : Fin 8) : Fin 16 := ⟨2 * p.val + 1, by omega⟩

theorem left_q (c : Dev nD) (t : Fin cfg0.N) (r : Fin 2048) (d : Fin 128) :
    (left (iblk m c 0 t) (ix2 r d) : EReal) = Ref.col (colsOf m c) (seqOf t) ⟨(firstOf (pairOf t)).val, by omega⟩ r d := by
  rw [left_apply, read_q]
  exact Ref.entry_congr _ rfl (by show 256 * _ + d.val = 128 * (2 * _) + d.val; omega)
theorem left_k (c : Dev nD) (t : Fin cfg0.N) (r : Fin 2048) (d : Fin 128) :
    (left (iblk m c 1 t) (ix2 r d) : EReal) = Ref.col (colsOf m c) (seqOf t) ⟨16 + (firstOf (pairOf t)).val, by omega⟩ r d := by
  rw [left_apply, read_k]
  exact Ref.entry_congr _ rfl (by show 2048 + 256 * _ + d.val = 128 * (16 + 2 * _) + d.val; omega)
theorem left_v (c : Dev nD) (t : Fin cfg0.N) (r : Fin 2048) (d : Fin 128) :
    (left (iblk m c 2 t) (ix2 r d) : EReal) = Ref.col (colsOf m c) (seqOf t) ⟨32 + (firstOf (pairOf t)).val, by omega⟩ r d := by
  rw [left_apply, read_v]
  exact Ref.entry_congr _ rfl (by show 4096 + 256 * _ + d.val = 128 * (32 + 2 * _) + d.val; omega)
theorem right_q (c : Dev nD) (t : Fin cfg0.N) (r : Fin 2048) (d : Fin 128) :
    (right (iblk m c 0 t) (ix2 r d) : EReal) = Ref.col (colsOf m c) (seqOf t) ⟨(secondOf (pairOf t)).val, by omega⟩ r d := by
  rw [right_apply, read_q]
  exact Ref.entry_congr _ rfl (by show 256 * _ + (128 + d.val) = 128 * (2 * _ + 1) + d.val; omega)
theorem right_k (c : Dev nD) (t : Fin cfg0.N) (r : Fin 2048) (d : Fin 128) :
    (right (iblk m c 1 t) (ix2 r d) : EReal) = Ref.col (colsOf m c) (seqOf t) ⟨16 + (secondOf (pairOf t)).val, by omega⟩ r d := by
  rw [right_apply, read_k]
  exact Ref.entry_congr _ rfl (by show 2048 + 256 * _ + (128 + d.val) = 128 * (16 + (2 * _ + 1)) + d.val; omega)
theorem right_v (c : Dev nD) (t : Fin cfg0.N) (r : Fin 2048) (d : Fin 128) :
    (right (iblk m c 2 t) (ix2 r d) : EReal) = Ref.col (colsOf m c) (seqOf t) ⟨32 + (secondOf (pairOf t)).val, by omega⟩ r d := by
  rw [right_apply, read_v]
  exact Ref.entry_congr _ rfl (by show 4096 + 256 * _ + (128 + d.val) = 128 * (32 + (2 * _ + 1)) + d.val; omega)

/-- Every query and key of the launch is real. -/
def RealCols (x : FVec Ideal S32768x6144 .f32) : Prop :=
  ∀ (b : Fin 16) (g : Fin 48), g.val < 32 → ∀ r d, Real' (Ref.col x b g r d)

/-- The first piece a point stores: the first head of its pair. -/
theorem left_head (c : Dev nD) (hx : RealCols (colsOf m c)) (t : Fin cfg0.N) (q : Fin 2048) (d : Fin 128) :
    (head (cosOf (iblk m c 3 t)) (sinOf (iblk m c 4 t)) (left (iblk m c 0 t)) (left (iblk m c 1 t)) (left (iblk m c 2 t)) (ix2 q d) : EReal)
      = headOut (colsOf m c) (posOf m c) (seqOf t) (firstOf (pairOf t)) q d := by
  rw [head_apply (tables_at m c t) (fun r f => Ref.angle_real _ _ r f) _ _ _
    (fun r d => by rw [left_q]; exact hx _ _ (by show (firstOf (pairOf t)).val < 32; omega) r d)
    (fun r d => by rw [left_k]; exact hx _ _ (by show 16 + (firstOf (pairOf t)).val < 32; omega) r d)]
  unfold headOut
  simp only [left_q, left_k, left_v]
  try rfl

/-- The second: the second head. -/
theorem right_head (c : Dev nD) (hx : RealCols (colsOf m c)) (t : Fin cfg0.N) (q : Fin 2048) (d : Fin 128) :
    (head (cosOf (iblk m c 3 t)) (sinOf (iblk m c 4 t)) (right (iblk m c 0 t)) (right (iblk m c 1 t)) (right (iblk m c 2 t)) (ix2 q d) : EReal)
      = headOut (colsOf m c) (posOf m c) (seqOf t) (secondOf (pairOf t)) q d := by
  rw [head_apply (tables_at m c t) (fun r f => Ref.angle_real _ _ r f) _ _ _
    (fun r d => by rw [right_q]; exact hx _ _ (by show (secondOf (pairOf t)).val < 32; omega) r d)
    (fun r d => by rw [right_k]; exact hx _ _ (by show 16 + (secondOf (pairOf t)).val < 32; omega) r d)]
  unfold headOut
  simp only [right_q, right_k, right_v]
  try rfl

/-- Where the columns of each piece lie in the block. -/
theorem emb_left (q : Fin 2048) (d : Fin 128) : r0_1.emb (ix2 q d) = ix2 q ⟨d.val, by omega⟩ := by
  funext a; apply Fin.ext
  match a with
  | ⟨0, _⟩ => show 0 + 1 * q.val = q.val; omega
  | ⟨1, _⟩ => show 0 + 1 * d.val = d.val; omega
theorem emb_right (q : Fin 2048) (d : Fin 128) : r0_2.emb (ix2 q d) = ix2 q ⟨128 + d.val, by omega⟩ := by
  funext a; apply Fin.ext
  match a with
  | ⟨0, _⟩ => show 0 + 1 * q.val = q.val; omega
  | ⟨1, _⟩ => show 128 + 1 * d.val = 128 + d.val; omega

/-- What a point leaves in the output's buffer, column by column. -/
theorem out_left (x0 x1 x2 : Vec Ideal S2048x256 .f32) (x3 x4 : Vec Ideal S2048x128 .f32) (q : Fin 2048) (d : Fin 128) :
    out0_5 x0 x1 x2 x3 x4 (ix2 q ⟨d.val, by omega⟩) = head (cosOf x3) (sinOf x4) (left x0) (left x1) (left x2) (ix2 q d) := by
  rw [out_eq, View.canon_cons_of_not_mem, ← emb_left]
  · exact View.canon_cons_emb r0_1 _ _ _
  · rw [Rect.mem_set_unit]
    intro h
    have h1 : 128 ≤ d.val := (h 1).1
    omega
theorem out_right (x0 x1 x2 : Vec Ideal S2048x256 .f32) (x3 x4 : Vec Ideal S2048x128 .f32) (q : Fin 2048) (d : Fin 128) :
    out0_5 x0 x1 x2 x3 x4 (ix2 q ⟨128 + d.val, by omega⟩) = head (cosOf x3) (sinOf x4) (right x0) (right x1) (right x2) (ix2 q d) := by
  rw [out_eq, ← emb_right]
  exact View.canon_cons_emb r0_2 _ _ _

/-- The reference's result at an index. -/
theorem result_head (V : Valuation Cert.ReferenceIdeal.τ Cert.ReferenceIdeal.sig (Elt Ideal)) (x : FVec Ideal S32768x6144 .f32) (p : IVec S16x2048 32)
    (h0 : V (Proc.devRef .tc Cert.ReferenceIdeal.main_arg0) = x) (h1 : V (Proc.devRef .tc Cert.ReferenceIdeal.main_arg1) = p)
    (hx : RealCols x) (b h : Fin 16) (q : Fin 2048) (d : Fin 128) (i : Fin 32768) (j : Fin 2048)
    (hi : i.val = 2048 * b.val + q.val) (hj : j.val = 128 * h.val + d.val) :
    (Ref.result V (ix2 i j) : EReal) = headOut x p b h q d := by
  subst h0 h1
  refine (congrArg (Ref.result V) (congrArg₂ ix2 (Fin.ext hi) (Fin.ext hj))).trans
    (Ref.result_apply V b h (fun r d => ?_) (fun r d => ?_) q d)
  · exact turn_real (fun r f => Ref.angle_real _ _ r f) (fun r d => hx _ _ (by show h.val < 32; omega) r d) r d
  · exact turn_real (fun r f => Ref.angle_real _ _ r f) (fun r d => hx _ _ (by show 16 + h.val < 32; omega) r d) r d

/-- What a point writes back, at an index of the block: the head its column belongs to. -/
theorem point_apply (c : Dev nD) (hx : RealCols (colsOf m c)) (G : FVec Ideal S32768x2048 .bf16)
    (hG : ∀ (b h : Fin 16) (q : Fin 2048) (d : Fin 128) (i : Fin 32768) (j : Fin 2048), i.val = 2048 * b.val + q.val →
      j.val = 128 * h.val + d.val → (G (ix2 i j) : EReal) = headOut (colsOf m c) (posOf m c) b h q d)
    (t : Fin cfg0.N) (q : Fin 2048) (d : Fin 256) :
    out0_5 (iblk m c 0 t) (iblk m c 1 t) (iblk m c 2 t) (iblk m c 3 t) (iblk m c 4 t) (ix2 q d)
      = G (((cfg0.win 5).blk t).view.emb (ix2 q d)) := by
  rw [emb_o]
  by_cases hd : d.val < 128
  · have e : d = ⟨(⟨d.val, hd⟩ : Fin 128).val, by omega⟩ := rfl
    refine (out_left _ _ _ _ _ q ⟨d.val, hd⟩).trans ((left_head m c hx t q ⟨d.val, hd⟩).trans (hG _ _ _ _ _ _ rfl ?_).symm)
    show 256 * _ + d.val = 128 * (2 * _) + d.val
    omega
  · obtain ⟨e, he⟩ : ∃ e : Fin 128, d = ⟨128 + e.val, Nat.add_lt_add_left e.isLt 128⟩ := ⟨⟨d.val - 128, by omega⟩, Fin.ext (by show d.val = 128 + (d.val - 128); omega)⟩
    subst he
    refine (out_right _ _ _ _ _ q e).trans ((right_head m c hx t q e).trans (hG _ _ _ _ _ _ rfl ?_).symm)
    show 256 * _ + (128 + e.val) = 128 * (2 * _ + 1) + e.val
    omega

theorem block_eq (c : Dev nD) (hx : RealCols (colsOf m c)) (G : FVec Ideal S32768x2048 .bf16)
    (hG : ∀ (b h : Fin 16) (q : Fin 2048) (d : Fin 128) (i : Fin 32768) (j : Fin 2048), i.val = 2048 * b.val + q.val →
      j.val = 128 * h.val + d.val → (G (ix2 i j) : EReal) = headOut (colsOf m c) (posOf m c) b h q d)
    (t : Fin cfg0.N) (y : S2048x256.Idx) :
    out0_5 (iblk m c 0 t) (iblk m c 1 t) (iblk m c 2 t) (iblk m c 3 t) (iblk m c 4 t) y
      = G (((cfg0.win 5).blk t).view.emb y) := by
  have hy : y = ix2 (y 0) (y 1) := funext fun a => by
    match a with
    | ⟨0, _⟩ => rfl
    | ⟨1, _⟩ => rfl
  rw [hy]
  exact point_apply m c hx G hG t (y 0) (y 1)

/-- The blocks cover the result array. -/
theorem covers_o : (cfg0.win 5).Covers := by decide +kernel

/-- The kernel's result array is the array that holds every head's attention at its columns. -/
theorem whole_of (c : Dev nD) (hx : RealCols (colsOf m c)) (G : FVec Ideal S32768x2048 .bf16)
    (hG : ∀ (b h : Fin 16) (q : Fin 2048) (d : Fin 128) (i : Fin 32768) (j : Fin 2048), i.val = 2048 * b.val + q.val →
      j.val = 128 * h.val + d.val → (G (ix2 i j) : EReal) = headOut (colsOf m c) (posOf m c) b h q d) :
    (dats m 0 c).arrAt 5 cfg0.N = G := by
  refine (dats m 0 c).arrAt_eq_of_cover 5 G (fun t _ => ?_) (covers_o.cover _ (Memref.isWhole_whole _))
  rw [Value.flushed5]
  exact funext fun y => block_eq m c hx G hG t y

/-- So it is the reference's. -/
theorem whole (c : Dev nD) (hx : RealCols (colsOf m c)) (V : Valuation Cert.ReferenceIdeal.τ Cert.ReferenceIdeal.sig (Elt Ideal))
    (h0 : V (Proc.devRef .tc Cert.ReferenceIdeal.main_arg0) = colsOf m c) (h1 : V (Proc.devRef .tc Cert.ReferenceIdeal.main_arg1) = posOf m c) :
    (dats m 0 c).arrAt 5 cfg0.N = Ref.result V :=
  whole_of m c hx _ fun b h q d i j hi hj => result_head V _ _ h0 h1 hx b h q d i j hi hj

/-- From memories that agree on the arguments, and where queries and keys are finite, both programs run and end with the
    same array. -/
theorem algebraic : Cert.algebraic_KernelIdeal_ReferenceIdeal_pre_finite_queries_and_keys
    (hPre_finite_queries_and_keys := preFacts) := by
  intro m g m' g' hpre hargs
  have hx : ∀ c, RealCols (colsOf m c) := fun c b g hg r d => real_col _ _ (hpre c) b g hg r d
  refine ⟨fun c => (dats m 0 c).arrAt 5 cfg0.N, Value.run_blocks m g, ?_⟩
  refine (θ_run Cert.ReferenceIdeal.defs _ _).mono (fun r h c => ⟨(h c).1.trans ?_, (h c).2⟩)
    (Cert.ReferenceIdeal.Value.run (F := Ideal) m' g')
  exact (whole m c (hx c) (StableHlo.launchContents m' c) (hargs c).1 (hargs c).2).symm

end Cert.Moba

end
-- ==== Proof.Product.lean ====
/-
  A product that a grid computes tile by tile, and the product of the whole arrays: what both hold at an index.
-/
module

public import proofs.«01_k».proof.Proof.Plain
public import Idealize.ShloMosaic.Lib.StackMember

@[expose] public section

noncomputable section

namespace Cert.Moba

open Idealize.ShloMosaic

/-- The host's product of two matrices at `(r, c)`: the sum of the products along the contracted axis. -/
theorem host_plain_apply {M K N : ℕ} {φ₁ φ₂ : FTy} (l : FVec Ideal ⟨2, ![M, K]⟩ φ₁) (r : FVec Ideal ⟨2, ![K, N]⟩ φ₂)
    (a : Fin M) (b : Fin N) :
    (Host.dotGeneral (φ₁ := φ₁) (φ₂ := φ₂) (DotDims.plain M K N) none l r (ix2 a b) : EReal) = ∑ k : Fin K, (l (ix2 a k) : EReal) * r (ix2 k b) := by
  have h := StackMember.dotGeneral_plain_apply none l r a b
  simp only [← ix2_eq_valueIdx] at h
  exact h

/-- A tile's product at `(r, d)` is the whole product at the place of `(r, d)`, where the tile's rows are the array's rows
    and its columns the array's columns. -/
theorem tile_apply {tm tn M K N : ℕ} {φ₁ φ₂ ψ₁ ψ₂ : FTy} (a : FVec Ideal ⟨2, ![tm, K]⟩ φ₁) (b : FVec Ideal ⟨2, ![K, tn]⟩ φ₂)
    (A : FVec Ideal ⟨2, ![M, K]⟩ ψ₁) (B : FVec Ideal ⟨2, ![K, N]⟩ ψ₂) (r : Fin tm) (d : Fin tn) (i : Fin M) (j : Fin N)
    (ha : ∀ k : Fin K, (a (ix2 r k) : EReal) = A (ix2 i k)) (hb : ∀ k : Fin K, (b (ix2 k d) : EReal) = B (ix2 k j)) :
    (matmul (DotDims.plain tm K tn) none a b (constant ⟨2, ![tm, tn]⟩ .f32 0x00000000#32) (ix2 r d) : EReal)
      = Host.dotGeneral (φ₁ := ψ₁) (φ₂ := ψ₂) (DotDims.plain M K N) none A B (ix2 i j) := by
  refine (plain_apply a b r d).trans (Eq.trans ?_ (host_plain_apply A B i j).symm)
  exact Finset.sum_congr rfl fun k _ => congrArg₂ (fun x y : EReal => x * y) (ha k) (hb k)

/-- A rank-two index is the pair of its coordinates. -/
theorem eq_ix2 {M N : ℕ} (y : (⟨2, ![M, N]⟩ : Shape).Idx) : y = ix2 (y 0) (y 1) := funext fun a => by
  match a with
  | ⟨0, _⟩ => rfl
  | ⟨1, _⟩ => rfl

end Cert.Moba

end
-- ==== Proof.Qkv.lean ====
/-
  The projection to queries, keys and values: every grid point multiplies a band of the rows by a band of the columns, and the bands' products
  are the blocks of the whole product.
-/
module

public import proofs.«01_k».proof.Defs
public import proofs.«01_k».proof.Proof.Product
public import proofs.«01_k».proof.Proof.Gen.QkvKernel.Frame
public import proofs.«01_k».proof.Proof.Gen.QkvKernelIdeal.Value
public import proofs.«01_k».proof.Proof.Gen.QkvReferenceIdeal.Run
public import Idealize.ShloMosaic.Lib.Quiescent
public import Idealize.ShloMosaic.Lib.StableHlo.ReadAt
public import Idealize.ShloMosaic.Lib.Pipeline.ValueKit

@[expose] public section

noncomputable section

open Idealize.ShloMosaic Idealize.ShloMosaic.TcCoe Idealize.SL.Sem

namespace Cert.Qkv

open Cert.Moba Cert.QkvKernelIdeal Cert.QkvKernelIdeal.Gen

variable (m : (ℓ : Loc nD τ sig) → Buf (Elt Ideal) ℓ)

/-- The rows and the weights as launched. -/
abbrev rowsOf (c : Dev nD) : FVec Ideal S32768x2048 .bf16 := m ((c : Thread nD τ).loc main_arg0)
abbrev weightsOf (c : Dev nD) : FVec Ideal S2048x6144 .f32 := m ((c : Thread nD τ).loc main_arg1)

/-- What the host hands the kernel as weights: the weights, cast. -/
theorem weights_eq (c : Dev nD) : V m c main_v0 = (truncf .bf16 (weightsOf m c) bitsLt_bf16_f32 : FVec Ideal S2048x6144 .bf16) := by
  unfold V
  after_reads_simp
theorem weights_apply (c : Dev nD) (k : Fin 2048) (j : Fin 6144) :
    (V m c main_v0 (ix2 k j) : EReal) = weightsOf m c (ix2 k j) := by
  rw [weights_eq]
  rfl

/-- The band of rows and the band of columns a grid point works on. -/
def rowBand (t : Fin cfg0.N) : Fin 32 := ⟨t.val / 6, by have h : t.val < 192 := t.isLt; omega⟩
def colBand (t : Fin cfg0.N) : Fin 6 := ⟨t.val % 6, by omega⟩

/-- Where each window's block lies. -/
theorem index_x : ∀ t : Fin cfg0.N, win0_0.index t (0 : Fin 2) = (rowBand t).val ∧ win0_0.index t (1 : Fin 2) = 0 :=
  (by decide +kernel : ∀ t : Fin grid0.N, _)
theorem index_w : ∀ t : Fin cfg0.N, win0_1.index t (0 : Fin 2) = 0 ∧ win0_1.index t (1 : Fin 2) = (colBand t).val :=
  (by decide +kernel : ∀ t : Fin grid0.N, _)
theorem index_o : ∀ t : Fin cfg0.N, win0_2.index t (0 : Fin 2) = (rowBand t).val ∧ win0_2.index t (1 : Fin 2) = (colBand t).val :=
  (by decide +kernel : ∀ t : Fin grid0.N, _)

/-- Where an index of each window's block lies in the window's array. -/
theorem emb_x (t : Fin cfg0.N) (r : Fin 1024) (k : Fin 2048) :
    ((cfg0.win 0).blk t).view.emb (ix2 r k) = ix2 ⟨1024 * (rowBand t).val + r.val, by omega⟩ k := by
  obtain ⟨e0, e1⟩ := index_x t
  funext a; apply Fin.ext
  match a with
  | ⟨0, _⟩ => show win0_0.index t (0 : Fin 2) * 1024 + 1 * r.val = 1024 * (rowBand t).val + r.val; omega
  | ⟨1, _⟩ => show win0_0.index t (1 : Fin 2) * 2048 + 1 * k.val = k.val; omega
theorem emb_w (t : Fin cfg0.N) (k : Fin 2048) (d : Fin 1024) :
    ((cfg0.win 1).blk t).view.emb (ix2 k d) = ix2 k ⟨1024 * (colBand t).val + d.val, by omega⟩ := by
  obtain ⟨e0, e1⟩ := index_w t
  funext a; apply Fin.ext
  match a with
  | ⟨0, _⟩ => show win0_1.index t (0 : Fin 2) * 2048 + 1 * k.val = k.val; omega
  | ⟨1, _⟩ => show win0_1.index t (1 : Fin 2) * 1024 + 1 * d.val = 1024 * (colBand t).val + d.val; omega
theorem emb_o (t : Fin cfg0.N) (r : Fin 1024) (d : Fin 1024) :
    ((cfg0.win 2).blk t).view.emb (ix2 r d)
      = ix2 ⟨1024 * (rowBand t).val + r.val, by omega⟩ ⟨1024 * (colBand t).val + d.val, by omega⟩ := by
  obtain ⟨e0, e1⟩ := index_o t
  funext a; apply Fin.ext
  match a with
  | ⟨0, _⟩ => show win0_2.index t (0 : Fin 2) * 1024 + 1 * r.val = 1024 * (rowBand t).val + r.val; omega
  | ⟨1, _⟩ => show win0_2.index t (1 : Fin 2) * 1024 + 1 * d.val = 1024 * (colBand t).val + d.val; omega

/-- What a point reads of the rows and of the weights. -/
theorem read_x (c : Dev nD) (t : Fin cfg0.N) (r : Fin 1024) (k : Fin 2048) :
    (iblk m c 0 t (ix2 r k) : EReal) = rowsOf m c (ix2 ⟨1024 * (rowBand t).val + r.val, by omega⟩ k) := by
  show V m c main_arg0 (((cfg0.win 0).blk t).view.emb (ix2 r k)) = _
  rw [emb_x, V_main_arg0]
theorem read_w (c : Dev nD) (t : Fin cfg0.N) (k : Fin 2048) (d : Fin 1024) :
    (iblk m c 1 t (ix2 k d) : EReal) = weightsOf m c (ix2 k ⟨1024 * (colBand t).val + d.val, by omega⟩) := by
  show V m c main_v0 (((cfg0.win 1).blk t).view.emb (ix2 k d)) = _
  rw [emb_w]
  exact weights_apply m c k _

/-- The product of the arrays, as the reference states it. -/
def product (x : FVec Ideal S32768x2048 .bf16) (w : FVec Ideal S2048x6144 .f32) : FVec Ideal S32768x6144 .f32 :=
  Host.dotGeneral (DotDims.plain 32768 2048 6144) none (extf (φ := .bf16) .f32 x (by decide)) w

/-- What a point leaves in the output's buffer is the product of the two blocks it reads. -/
theorem out_apply (x : Vec Ideal S1024x2048 .bf16) (w : Vec Ideal S2048x1024 .bf16) (r : Fin 1024) (d : Fin 1024) :
    (out0_2 x w (ix2 r d) : EReal) = matmul (F := Ideal) (φ₁ := .bf16) (φ₂ := .bf16) (DotDims.plain 1024 2048 1024) none x w (constant ⟨2, ![1024, 1024]⟩ .f32 0x00000000#32) (ix2 r d) := by
  have e : r0_2.emb (ix2 r d) = ix2 r d := by
    funext a; apply Fin.ext
    match a with
    | ⟨0, _⟩ => show 0 + 1 * r.val = r.val; omega
    | ⟨1, _⟩ => show 0 + 1 * d.val = d.val; omega
  have h : k0_pay1 (View.ld x r0_0) (View.ld w r0_1) = matmul (F := Ideal) (φ₁ := .bf16) (φ₂ := .bf16) (DotDims.plain 1024 2048 1024) none x w (constant ⟨2, ![1024, 1024]⟩ .f32 0x00000000#32) := by
    unfold k0_pay1
    simp only [shapeCast_self]
    have ex : View.ld x r0_0 = x := funext fun y => congrArg x (funext fun a => Fin.ext (by
      match a with
      | ⟨0, _⟩ => show 0 + 1 * (y 0).val = (y 0).val; omega
      | ⟨1, _⟩ => show 0 + 1 * (y 1).val = (y 1).val; omega))
    have ew : View.ld w r0_1 = w := funext fun y => congrArg w (funext fun a => Fin.ext (by
      match a with
      | ⟨0, _⟩ => show 0 + 1 * (y 0).val = (y 0).val; omega
      | ⟨1, _⟩ => show 0 + 1 * (y 1).val = (y 1).val; omega))
    rw [ex, ew]
    rfl
  unfold out0_2
  rw [h]
  conv_lhs => rw [← e]
  exact View.canon_cons_emb r0_2 _ _ _

/-- What a point writes back is its block of the product. -/
theorem point_apply (c : Dev nD) (t : Fin cfg0.N) (r : Fin 1024) (d : Fin 1024) :
    (out0_2 (iblk m c 0 t) (iblk m c 1 t) (ix2 r d) : EReal)
      = product (rowsOf m c) (weightsOf m c) (((cfg0.win 2).blk t).view.emb (ix2 r d)) := by
  rw [emb_o, out_apply]
  exact tile_apply _ _ (extf (φ := .bf16) .f32 (rowsOf m c) (by decide)) (weightsOf m c) r d _ _ (fun k => read_x m c t r k) (fun k => read_w m c t k d)

/-- The blocks cover the result array. -/
theorem covers_o : (cfg0.win 2).Covers := by decide +kernel

/-- The kernel's result array is the product. -/
theorem whole (c : Dev nD) : (dats m 0 c).arrAt 2 cfg0.N = product (rowsOf m c) (weightsOf m c) := by
  refine (dats m 0 c).arrAt_eq_of_cover 2 _ (fun t _ => ?_) (covers_o.cover _ (Memref.isWhole_whole _))
  rw [Value.flushed2]
  refine funext fun y => ?_
  have hy := eq_ix2 (M := 1024) (N := 1024) y
  rw [hy]
  exact point_apply m c t (y 0) (y 1)

/-- The kernel as printed runs, ends and leaves its arguments alone. -/
theorem frame_kernel : Cert.quiescent_QkvKernel := fun m ρ _ => Cert.QkvKernel.Gen.frame m ρ

/-- The same of the kernel read at the ideal instance. -/
theorem frame_ideal : Cert.quiescent_QkvKernelIdeal := fun m ρ _ => Cert.QkvKernelIdeal.Gen.frame m ρ

/-- The same of the reference read at the ideal instance. -/
theorem frame_reference : Cert.quiescent_QkvReferenceIdeal := fun m ρ _ =>
  (θ_run Cert.QkvReferenceIdeal.defs _ _).mono (fun r h => ⟨fun c => (h c).2,
      Idealize.ShloMosaic.sem_eq_zero_of_no_sems (by decide) r.2⟩)
    (Cert.QkvReferenceIdeal.Value.run (F := Ideal) m ρ)

/-- Nothing is read differently at the ideal instance. -/
theorem preserves : Cert.preserves_QkvKernel_QkvKernelIdeal := trivial

/-- From memories that agree on the arguments both programs run and end with the same array. -/
theorem algebraic : Cert.algebraic_QkvKernelIdeal_QkvReferenceIdeal := by
  intro m g m' g' _ hargs
  refine ⟨fun c => (dats m 0 c).arrAt 2 cfg0.N, Value.run_blocks m g, ?_⟩
  refine (θ_run Cert.QkvReferenceIdeal.defs _ _).mono (fun r h c => ⟨(h c).1.trans ?_, (h c).2⟩)
    (Cert.QkvReferenceIdeal.Value.run (F := Ideal) m' g')
  rw [(hargs c).1, (hargs c).2]
  exact (whole m c).symm

end Cert.Qkv

end
-- ==== Proof.Out.lean ====
/-
  The attention's output projection: every grid point multiplies a band of the rows by a band of the columns, and the bands' products
  are the blocks of the whole product.
-/
module

public import proofs.«01_k».proof.Defs
public import proofs.«01_k».proof.Proof.Product
public import proofs.«01_k».proof.Proof.Gen.OutKernel.Frame
public import proofs.«01_k».proof.Proof.Gen.OutKernelIdeal.Value
public import proofs.«01_k».proof.Proof.Gen.OutReferenceIdeal.Run
public import Idealize.ShloMosaic.Lib.Quiescent
public import Idealize.ShloMosaic.Lib.StableHlo.ReadAt
public import Idealize.ShloMosaic.Lib.Pipeline.ValueKit

@[expose] public section

noncomputable section

open Idealize.ShloMosaic Idealize.ShloMosaic.TcCoe Idealize.SL.Sem

namespace Cert.Out

open Cert.Moba Cert.OutKernelIdeal Cert.OutKernelIdeal.Gen

variable (m : (ℓ : Loc nD τ sig) → Buf (Elt Ideal) ℓ)

/-- The rows and the weights as launched. -/
abbrev rowsOf (c : Dev nD) : FVec Ideal S32768x2048 .bf16 := m ((c : Thread nD τ).loc main_arg0)
abbrev weightsOf (c : Dev nD) : FVec Ideal S2048x2048 .f32 := m ((c : Thread nD τ).loc main_arg1)

/-- What the host hands the kernel as weights: the weights, cast. -/
theorem weights_eq (c : Dev nD) : V m c main_v0 = (truncf .bf16 (weightsOf m c) bitsLt_bf16_f32 : FVec Ideal S2048x2048 .bf16) := by
  unfold V
  after_reads_simp
theorem weights_apply (c : Dev nD) (k : Fin 2048) (j : Fin 2048) :
    (V m c main_v0 (ix2 k j) : EReal) = weightsOf m c (ix2 k j) := by
  rw [weights_eq]
  rfl

/-- The band of rows and the band of columns a grid point works on. -/
def rowBand (t : Fin cfg0.N) : Fin 32 := ⟨t.val / 2, by have h : t.val < 64 := t.isLt; omega⟩
def colBand (t : Fin cfg0.N) : Fin 2 := ⟨t.val % 2, by omega⟩

/-- Where each window's block lies. -/
theorem index_x : ∀ t : Fin cfg0.N, win0_0.index t (0 : Fin 2) = (rowBand t).val ∧ win0_0.index t (1 : Fin 2) = 0 :=
  (by decide +kernel : ∀ t : Fin grid0.N, _)
theorem index_w : ∀ t : Fin cfg0.N, win0_1.index t (0 : Fin 2) = 0 ∧ win0_1.index t (1 : Fin 2) = (colBand t).val :=
  (by decide +kernel : ∀ t : Fin grid0.N, _)
theorem index_o : ∀ t : Fin cfg0.N, win0_2.index t (0 : Fin 2) = (rowBand t).val ∧ win0_2.index t (1 : Fin 2) = (colBand t).val :=
  (by decide +kernel : ∀ t : Fin grid0.N, _)

/-- Where an index of each window's block lies in the window's array. -/
theorem emb_x (t : Fin cfg0.N) (r : Fin 1024) (k : Fin 2048) :
    ((cfg0.win 0).blk t).view.emb (ix2 r k) = ix2 ⟨1024 * (rowBand t).val + r.val, by omega⟩ k := by
  obtain ⟨e0, e1⟩ := index_x t
  funext a; apply Fin.ext
  match a with
  | ⟨0, _⟩ => show win0_0.index t (0 : Fin 2) * 1024 + 1 * r.val = 1024 * (rowBand t).val + r.val; omega
  | ⟨1, _⟩ => show win0_0.index t (1 : Fin 2) * 2048 + 1 * k.val = k.val; omega
theorem emb_w (t : Fin cfg0.N) (k : Fin 2048) (d : Fin 1024) :
    ((cfg0.win 1).blk t).view.emb (ix2 k d) = ix2 k ⟨1024 * (colBand t).val + d.val, by omega⟩ := by
  obtain ⟨e0, e1⟩ := index_w t
  funext a; apply Fin.ext
  match a with
  | ⟨0, _⟩ => show win0_1.index t (0 : Fin 2) * 2048 + 1 * k.val = k.val; omega
  | ⟨1, _⟩ => show win0_1.index t (1 : Fin 2) * 1024 + 1 * d.val = 1024 * (colBand t).val + d.val; omega
theorem emb_o (t : Fin cfg0.N) (r : Fin 1024) (d : Fin 1024) :
    ((cfg0.win 2).blk t).view.emb (ix2 r d)
      = ix2 ⟨1024 * (rowBand t).val + r.val, by omega⟩ ⟨1024 * (colBand t).val + d.val, by omega⟩ := by
  obtain ⟨e0, e1⟩ := index_o t
  funext a; apply Fin.ext
  match a with
  | ⟨0, _⟩ => show win0_2.index t (0 : Fin 2) * 1024 + 1 * r.val = 1024 * (rowBand t).val + r.val; omega
  | ⟨1, _⟩ => show win0_2.index t (1 : Fin 2) * 1024 + 1 * d.val = 1024 * (colBand t).val + d.val; omega

/-- What a point reads of the rows and of the weights. -/
theorem read_x (c : Dev nD) (t : Fin cfg0.N) (r : Fin 1024) (k : Fin 2048) :
    (iblk m c 0 t (ix2 r k) : EReal) = rowsOf m c (ix2 ⟨1024 * (rowBand t).val + r.val, by omega⟩ k) := by
  show V m c main_arg0 (((cfg0.win 0).blk t).view.emb (ix2 r k)) = _
  rw [emb_x, V_main_arg0]
theorem read_w (c : Dev nD) (t : Fin cfg0.N) (k : Fin 2048) (d : Fin 1024) :
    (iblk m c 1 t (ix2 k d) : EReal) = weightsOf m c (ix2 k ⟨1024 * (colBand t).val + d.val, by omega⟩) := by
  show V m c main_v0 (((cfg0.win 1).blk t).view.emb (ix2 k d)) = _
  rw [emb_w]
  exact weights_apply m c k _

/-- The product of the arrays, as the reference states it. -/
def product (x : FVec Ideal S32768x2048 .bf16) (w : FVec Ideal S2048x2048 .f32) : FVec Ideal S32768x2048 .f32 :=
  Host.dotGeneral (DotDims.plain 32768 2048 2048) none (extf (φ := .bf16) .f32 x (by decide)) w

/-- What a point leaves in the output's buffer is the product of the two blocks it reads. -/
theorem out_apply (x : Vec Ideal S1024x2048 .bf16) (w : Vec Ideal S2048x1024 .bf16) (r : Fin 1024) (d : Fin 1024) :
    (out0_2 x w (ix2 r d) : EReal) = matmul (F := Ideal) (φ₁ := .bf16) (φ₂ := .bf16) (DotDims.plain 1024 2048 1024) none x w (constant ⟨2, ![1024, 1024]⟩ .f32 0x00000000#32) (ix2 r d) := by
  have e : r0_2.emb (ix2 r d) = ix2 r d := by
    funext a; apply Fin.ext
    match a with
    | ⟨0, _⟩ => show 0 + 1 * r.val = r.val; omega
    | ⟨1, _⟩ => show 0 + 1 * d.val = d.val; omega
  have h : k0_pay1 (View.ld x r0_0) (View.ld w r0_1) = matmul (F := Ideal) (φ₁ := .bf16) (φ₂ := .bf16) (DotDims.plain 1024 2048 1024) none x w (constant ⟨2, ![1024, 1024]⟩ .f32 0x00000000#32) := by
    unfold k0_pay1
    simp only [shapeCast_self]
    have ex : View.ld x r0_0 = x := funext fun y => congrArg x (funext fun a => Fin.ext (by
      match a with
      | ⟨0, _⟩ => show 0 + 1 * (y 0).val = (y 0).val; omega
      | ⟨1, _⟩ => show 0 + 1 * (y 1).val = (y 1).val; omega))
    have ew : View.ld w r0_1 = w := funext fun y => congrArg w (funext fun a => Fin.ext (by
      match a with
      | ⟨0, _⟩ => show 0 + 1 * (y 0).val = (y 0).val; omega
      | ⟨1, _⟩ => show 0 + 1 * (y 1).val = (y 1).val; omega))
    rw [ex, ew]
    rfl
  unfold out0_2
  rw [h]
  conv_lhs => rw [← e]
  exact View.canon_cons_emb r0_2 _ _ _

/-- What a point writes back is its block of the product. -/
theorem point_apply (c : Dev nD) (t : Fin cfg0.N) (r : Fin 1024) (d : Fin 1024) :
    (out0_2 (iblk m c 0 t) (iblk m c 1 t) (ix2 r d) : EReal)
      = product (rowsOf m c) (weightsOf m c) (((cfg0.win 2).blk t).view.emb (ix2 r d)) := by
  rw [emb_o, out_apply]
  exact tile_apply _ _ (extf (φ := .bf16) .f32 (rowsOf m c) (by decide)) (weightsOf m c) r d _ _ (fun k => read_x m c t r k) (fun k => read_w m c t k d)

/-- The blocks cover the result array. -/
theorem covers_o : (cfg0.win 2).Covers := by decide +kernel

/-- The kernel's result array is the product. -/
theorem whole (c : Dev nD) : (dats m 0 c).arrAt 2 cfg0.N = product (rowsOf m c) (weightsOf m c) := by
  refine (dats m 0 c).arrAt_eq_of_cover 2 _ (fun t _ => ?_) (covers_o.cover _ (Memref.isWhole_whole _))
  rw [Value.flushed2]
  refine funext fun y => ?_
  have hy := eq_ix2 (M := 1024) (N := 1024) y
  rw [hy]
  exact point_apply m c t (y 0) (y 1)

/-- The kernel as printed runs, ends and leaves its arguments alone. -/
theorem frame_kernel : Cert.quiescent_OutKernel := fun m ρ _ => Cert.OutKernel.Gen.frame m ρ

/-- The same of the kernel read at the ideal instance. -/
theorem frame_ideal : Cert.quiescent_OutKernelIdeal := fun m ρ _ => Cert.OutKernelIdeal.Gen.frame m ρ

/-- The same of the reference read at the ideal instance. -/
theorem frame_reference : Cert.quiescent_OutReferenceIdeal := fun m ρ _ =>
  (θ_run Cert.OutReferenceIdeal.defs _ _).mono (fun r h => ⟨fun c => (h c).2,
      Idealize.ShloMosaic.sem_eq_zero_of_no_sems (by decide) r.2⟩)
    (Cert.OutReferenceIdeal.Value.run (F := Ideal) m ρ)

/-- Nothing is read differently at the ideal instance. -/
theorem preserves : Cert.preserves_OutKernel_OutKernelIdeal := trivial

/-- From memories that agree on the arguments both programs run and end with the same array. -/
theorem algebraic : Cert.algebraic_OutKernelIdeal_OutReferenceIdeal := by
  intro m g m' g' _ hargs
  refine ⟨fun c => (dats m 0 c).arrAt 2 cfg0.N, Value.run_blocks m g, ?_⟩
  refine (θ_run Cert.OutReferenceIdeal.defs _ _).mono (fun r h c => ⟨(h c).1.trans ?_, (h c).2⟩)
    (Cert.OutReferenceIdeal.Value.run (F := Ideal) m' g')
  rw [(hargs c).1, (hargs c).2]
  exact (whole m c).symm

end Cert.Out

end
-- ==== Proof.In.lean ====
/-
  The recurrent block's input projection: every grid point multiplies a band of the rows by a band of the columns, and the bands' products
  are the blocks of the whole product.
-/
module

public import proofs.«01_k».proof.Defs
public import proofs.«01_k».proof.Proof.Product
public import proofs.«01_k».proof.Proof.Gen.InKernel.Frame
public import proofs.«01_k».proof.Proof.Gen.InKernelIdeal.Value
public import proofs.«01_k».proof.Proof.Gen.InReferenceIdeal.Run
public import Idealize.ShloMosaic.Lib.Quiescent
public import Idealize.ShloMosaic.Lib.StableHlo.ReadAt
public import Idealize.ShloMosaic.Lib.Pipeline.ValueKit

@[expose] public section

noncomputable section

open Idealize.ShloMosaic Idealize.ShloMosaic.TcCoe Idealize.SL.Sem

namespace Cert.In

open Cert.Moba Cert.InKernelIdeal Cert.InKernelIdeal.Gen

variable (m : (ℓ : Loc nD τ sig) → Buf (Elt Ideal) ℓ)

/-- The rows and the weights as launched. -/
abbrev rowsOf (c : Dev nD) : FVec Ideal S32768x2048 .bf16 := m ((c : Thread nD τ).loc main_arg0)
abbrev weightsOf (c : Dev nD) : FVec Ideal S2048x12352 .f32 := m ((c : Thread nD τ).loc main_arg1)

/-- What the host hands the kernel as weights: the columns of the weights that hold the main projections, cast. -/
theorem weights_eq (c : Dev nD) : V m c main_v1 = (truncf .bf16 (extractStridedSlice S2048x12288 ![0, 0] (weightsOf m c) slices_S2048x12352_S2048x12288_0_0) bitsLt_bf16_f32 : FVec Ideal S2048x12288 .bf16) := by
  unfold V
  after_reads_simp
theorem weights_apply (c : Dev nD) (k : Fin 2048) (j : Fin 12288) :
    (V m c main_v1 (ix2 k j) : EReal) = weightsOf m c (ix2 k ⟨j.val, by omega⟩) := by
  rw [weights_eq]
  exact congrArg (weightsOf m c) (funext fun a => Fin.ext (by
    match a with
    | ⟨0, _⟩ => show 0 + k.val = k.val; omega
    | ⟨1, _⟩ => show 0 + j.val = j.val; omega))

/-- The band of rows and the band of columns a grid point works on. -/
def rowBand (t : Fin cfg0.N) : Fin 32 := ⟨t.val / 12, by have h : t.val < 384 := t.isLt; omega⟩
def colBand (t : Fin cfg0.N) : Fin 12 := ⟨t.val % 12, by omega⟩

/-- Where each window's block lies. -/
theorem index_x : ∀ t : Fin cfg0.N, win0_0.index t (0 : Fin 2) = (rowBand t).val ∧ win0_0.index t (1 : Fin 2) = 0 :=
  (by decide +kernel : ∀ t : Fin grid0.N, _)
theorem index_w : ∀ t : Fin cfg0.N, win0_1.index t (0 : Fin 2) = 0 ∧ win0_1.index t (1 : Fin 2) = (colBand t).val :=
  (by decide +kernel : ∀ t : Fin grid0.N, _)
theorem index_o : ∀ t : Fin cfg0.N, win0_2.index t (0 : Fin 2) = (rowBand t).val ∧ win0_2.index t (1 : Fin 2) = (colBand t).val :=
  (by decide +kernel : ∀ t : Fin grid0.N, _)

/-- Where an index of each window's block lies in the window's array. -/
theorem emb_x (t : Fin cfg0.N) (r : Fin 1024) (k : Fin 2048) :
    ((cfg0.win 0).blk t).view.emb (ix2 r k) = ix2 ⟨1024 * (rowBand t).val + r.val, by omega⟩ k := by
  obtain ⟨e0, e1⟩ := index_x t
  funext a; apply Fin.ext
  match a with
  | ⟨0, _⟩ => show win0_0.index t (0 : Fin 2) * 1024 + 1 * r.val = 1024 * (rowBand t).val + r.val; omega
  | ⟨1, _⟩ => show win0_0.index t (1 : Fin 2) * 2048 + 1 * k.val = k.val; omega
theorem emb_w (t : Fin cfg0.N) (k : Fin 2048) (d : Fin 1024) :
    ((cfg0.win 1).blk t).view.emb (ix2 k d) = ix2 k ⟨1024 * (colBand t).val + d.val, by omega⟩ := by
  obtain ⟨e0, e1⟩ := index_w t
  funext a; apply Fin.ext
  match a with
  | ⟨0, _⟩ => show win0_1.index t (0 : Fin 2) * 2048 + 1 * k.val = k.val; omega
  | ⟨1, _⟩ => show win0_1.index t (1 : Fin 2) * 1024 + 1 * d.val = 1024 * (colBand t).val + d.val; omega
theorem emb_o (t : Fin cfg0.N) (r : Fin 1024) (d : Fin 1024) :
    ((cfg0.win 2).blk t).view.emb (ix2 r d)
      = ix2 ⟨1024 * (rowBand t).val + r.val, by omega⟩ ⟨1024 * (colBand t).val + d.val, by omega⟩ := by
  obtain ⟨e0, e1⟩ := index_o t
  funext a; apply Fin.ext
  match a with
  | ⟨0, _⟩ => show win0_2.index t (0 : Fin 2) * 1024 + 1 * r.val = 1024 * (rowBand t).val + r.val; omega
  | ⟨1, _⟩ => show win0_2.index t (1 : Fin 2) * 1024 + 1 * d.val = 1024 * (colBand t).val + d.val; omega

/-- What a point reads of the rows and of the weights. -/
theorem read_x (c : Dev nD) (t : Fin cfg0.N) (r : Fin 1024) (k : Fin 2048) :
    (iblk m c 0 t (ix2 r k) : EReal) = rowsOf m c (ix2 ⟨1024 * (rowBand t).val + r.val, by omega⟩ k) := by
  show V m c main_arg0 (((cfg0.win 0).blk t).view.emb (ix2 r k)) = _
  rw [emb_x, V_main_arg0]
theorem read_w (c : Dev nD) (t : Fin cfg0.N) (k : Fin 2048) (d : Fin 1024) :
    (iblk m c 1 t (ix2 k d) : EReal) = weightsOf m c (ix2 k ⟨1024 * (colBand t).val + d.val, by omega⟩) := by
  show V m c main_v1 (((cfg0.win 1).blk t).view.emb (ix2 k d)) = _
  rw [emb_w]
  exact weights_apply m c k _

/-- The product of the arrays, as the reference states it. -/
def product (x : FVec Ideal S32768x2048 .bf16) (w : FVec Ideal S2048x12352 .f32) : FVec Ideal S32768x12288 .f32 :=
  extractStridedSlice S32768x12288 ![0, 0] (Host.dotGeneral (DotDims.plain 32768 2048 12352) none (extf (φ := .bf16) .f32 x (by decide)) w) Cert.InReferenceIdeal.Gen.facts.slices_S32768x12352_S32768x12288_0_0

/-- What a point leaves in the output's buffer is the product of the two blocks it reads. -/
theorem out_apply (x : Vec Ideal S1024x2048 .bf16) (w : Vec Ideal S2048x1024 .bf16) (r : Fin 1024) (d : Fin 1024) :
    (out0_2 x w (ix2 r d) : EReal) = matmul (F := Ideal) (φ₁ := .bf16) (φ₂ := .bf16) (DotDims.plain 1024 2048 1024) none x w (constant ⟨2, ![1024, 1024]⟩ .f32 0x00000000#32) (ix2 r d) := by
  have e : r0_2.emb (ix2 r d) = ix2 r d := by
    funext a; apply Fin.ext
    match a with
    | ⟨0, _⟩ => show 0 + 1 * r.val = r.val; omega
    | ⟨1, _⟩ => show 0 + 1 * d.val = d.val; omega
  have h : k0_pay1 (View.ld x r0_0) (View.ld w r0_1) = matmul (F := Ideal) (φ₁ := .bf16) (φ₂ := .bf16) (DotDims.plain 1024 2048 1024) none x w (constant ⟨2, ![1024, 1024]⟩ .f32 0x00000000#32) := by
    unfold k0_pay1
    simp only [shapeCast_self]
    have ex : View.ld x r0_0 = x := funext fun y => congrArg x (funext fun a => Fin.ext (by
      match a with
      | ⟨0, _⟩ => show 0 + 1 * (y 0).val = (y 0).val; omega
      | ⟨1, _⟩ => show 0 + 1 * (y 1).val = (y 1).val; omega))
    have ew : View.ld w r0_1 = w := funext fun y => congrArg w (funext fun a => Fin.ext (by
      match a with
      | ⟨0, _⟩ => show 0 + 1 * (y 0).val = (y 0).val; omega
      | ⟨1, _⟩ => show 0 + 1 * (y 1).val = (y 1).val; omega))
    rw [ex, ew]
    rfl
  unfold out0_2
  rw [h]
  conv_lhs => rw [← e]
  exact View.canon_cons_emb r0_2 _ _ _

/-- What a point writes back is its block of the product. -/
theorem point_apply (c : Dev nD) (t : Fin cfg0.N) (r : Fin 1024) (d : Fin 1024) :
    (out0_2 (iblk m c 0 t) (iblk m c 1 t) (ix2 r d) : EReal)
      = product (rowsOf m c) (weightsOf m c) (((cfg0.win 2).blk t).view.emb (ix2 r d)) := by
  rw [emb_o, out_apply]
  refine (tile_apply _ _ (extf (φ := .bf16) .f32 (rowsOf m c) (by decide)) (weightsOf m c) r d ⟨1024 * (rowBand t).val + r.val, by omega⟩ ⟨1024 * (colBand t).val + d.val, by omega⟩
    (fun k => read_x m c t r k) (fun k => read_w m c t k d)).trans ?_
  refine congrArg (Host.dotGeneral (DotDims.plain 32768 2048 12352) none (extf (φ := .bf16) .f32 (rowsOf m c) (by decide)) (weightsOf m c)) (funext fun a => Fin.ext ?_)
  match a with
  | ⟨0, _⟩ => show 1024 * (rowBand t).val + r.val = 0 + (1024 * (rowBand t).val + r.val); omega
  | ⟨1, _⟩ => show 1024 * (colBand t).val + d.val = 0 + (1024 * (colBand t).val + d.val); omega

/-- The blocks cover the result array. -/
theorem covers_o : (cfg0.win 2).Covers := by decide +kernel

/-- The kernel's result array is the product. -/
theorem whole (c : Dev nD) : (dats m 0 c).arrAt 2 cfg0.N = product (rowsOf m c) (weightsOf m c) := by
  refine (dats m 0 c).arrAt_eq_of_cover 2 _ (fun t _ => ?_) (covers_o.cover _ (Memref.isWhole_whole _))
  rw [Value.flushed2]
  refine funext fun y => ?_
  have hy := eq_ix2 (M := 1024) (N := 1024) y
  rw [hy]
  exact point_apply m c t (y 0) (y 1)

/-- The kernel as printed runs, ends and leaves its arguments alone. -/
theorem frame_kernel : Cert.quiescent_InKernel := fun m ρ _ => Cert.InKernel.Gen.frame m ρ

/-- The same of the kernel read at the ideal instance. -/
theorem frame_ideal : Cert.quiescent_InKernelIdeal := fun m ρ _ => Cert.InKernelIdeal.Gen.frame m ρ

/-- The same of the reference read at the ideal instance. -/
theorem frame_reference : Cert.quiescent_InReferenceIdeal := fun m ρ _ =>
  (θ_run Cert.InReferenceIdeal.defs _ _).mono (fun r h => ⟨fun c => (h c).2,
      Idealize.ShloMosaic.sem_eq_zero_of_no_sems (by decide) r.2⟩)
    (Cert.InReferenceIdeal.Value.run (F := Ideal) m ρ)

/-- Nothing is read differently at the ideal instance. -/
theorem preserves : Cert.preserves_InKernel_InKernelIdeal := trivial

/-- From memories that agree on the arguments both programs run and end with the same array. -/
theorem algebraic : Cert.algebraic_InKernelIdeal_InReferenceIdeal := by
  intro m g m' g' _ hargs
  refine ⟨fun c => (dats m 0 c).arrAt 2 cfg0.N, Value.run_blocks m g, ?_⟩
  refine (θ_run Cert.InReferenceIdeal.defs _ _).mono (fun r h c => ⟨(h c).1.trans ?_, (h c).2⟩)
    (Cert.InReferenceIdeal.Value.run (F := Ideal) m' g')
  rw [(hargs c).1, (hargs c).2]
  exact (whole m c).symm

end Cert.In

end
-- ==== Proof.Back.lean ====
/-
  The recurrent block's output projection: every grid point multiplies a band of the rows by a band of the columns, and the bands' products
  are the blocks of the whole product.
-/
module

public import proofs.«01_k».proof.Defs
public import proofs.«01_k».proof.Proof.Product
public import proofs.«01_k».proof.Proof.Gen.BackKernel.Frame
public import proofs.«01_k».proof.Proof.Gen.BackKernelIdeal.Value
public import proofs.«01_k».proof.Proof.Gen.BackReferenceIdeal.Run
public import Idealize.ShloMosaic.Lib.Quiescent
public import Idealize.ShloMosaic.Lib.StableHlo.ReadAt
public import Idealize.ShloMosaic.Lib.Pipeline.ValueKit

@[expose] public section

noncomputable section

open Idealize.ShloMosaic Idealize.ShloMosaic.TcCoe Idealize.SL.Sem

namespace Cert.Back

open Cert.Moba Cert.BackKernelIdeal Cert.BackKernelIdeal.Gen

variable (m : (ℓ : Loc nD τ sig) → Buf (Elt Ideal) ℓ)

/-- The rows and the weights as launched. -/
abbrev rowsOf (c : Dev nD) : FVec Ideal S32768x4096 .bf16 := m ((c : Thread nD τ).loc main_arg0)
abbrev weightsOf (c : Dev nD) : FVec Ideal S4096x2048 .f32 := m ((c : Thread nD τ).loc main_arg1)

/-- What the host hands the kernel as weights: the weights, cast. -/
theorem weights_eq (c : Dev nD) : V m c main_v0 = (truncf .bf16 (weightsOf m c) bitsLt_bf16_f32 : FVec Ideal S4096x2048 .bf16) := by
  unfold V
  after_reads_simp
theorem weights_apply (c : Dev nD) (k : Fin 4096) (j : Fin 2048) :
    (V m c main_v0 (ix2 k j) : EReal) = weightsOf m c (ix2 k j) := by
  rw [weights_eq]
  rfl

/-- The band of rows and the band of columns a grid point works on. -/
def rowBand (t : Fin cfg0.N) : Fin 64 := ⟨t.val / 2, by have h : t.val < 128 := t.isLt; omega⟩
def colBand (t : Fin cfg0.N) : Fin 2 := ⟨t.val % 2, by omega⟩

/-- Where each window's block lies. -/
theorem index_x : ∀ t : Fin cfg0.N, win0_0.index t (0 : Fin 2) = (rowBand t).val ∧ win0_0.index t (1 : Fin 2) = 0 :=
  (by decide +kernel : ∀ t : Fin grid0.N, _)
theorem index_w : ∀ t : Fin cfg0.N, win0_1.index t (0 : Fin 2) = 0 ∧ win0_1.index t (1 : Fin 2) = (colBand t).val :=
  (by decide +kernel : ∀ t : Fin grid0.N, _)
theorem index_o : ∀ t : Fin cfg0.N, win0_2.index t (0 : Fin 2) = (rowBand t).val ∧ win0_2.index t (1 : Fin 2) = (colBand t).val :=
  (by decide +kernel : ∀ t : Fin grid0.N, _)

/-- Where an index of each window's block lies in the window's array. -/
theorem emb_x (t : Fin cfg0.N) (r : Fin 512) (k : Fin 4096) :
    ((cfg0.win 0).blk t).view.emb (ix2 r k) = ix2 ⟨512 * (rowBand t).val + r.val, by omega⟩ k := by
  obtain ⟨e0, e1⟩ := index_x t
  funext a; apply Fin.ext
  match a with
  | ⟨0, _⟩ => show win0_0.index t (0 : Fin 2) * 512 + 1 * r.val = 512 * (rowBand t).val + r.val; omega
  | ⟨1, _⟩ => show win0_0.index t (1 : Fin 2) * 4096 + 1 * k.val = k.val; omega
theorem emb_w (t : Fin cfg0.N) (k : Fin 4096) (d : Fin 1024) :
    ((cfg0.win 1).blk t).view.emb (ix2 k d) = ix2 k ⟨1024 * (colBand t).val + d.val, by omega⟩ := by
  obtain ⟨e0, e1⟩ := index_w t
  funext a; apply Fin.ext
  match a with
  | ⟨0, _⟩ => show win0_1.index t (0 : Fin 2) * 4096 + 1 * k.val = k.val; omega
  | ⟨1, _⟩ => show win0_1.index t (1 : Fin 2) * 1024 + 1 * d.val = 1024 * (colBand t).val + d.val; omega
theorem emb_o (t : Fin cfg0.N) (r : Fin 512) (d : Fin 1024) :
    ((cfg0.win 2).blk t).view.emb (ix2 r d)
      = ix2 ⟨512 * (rowBand t).val + r.val, by omega⟩ ⟨1024 * (colBand t).val + d.val, by omega⟩ := by
  obtain ⟨e0, e1⟩ := index_o t
  funext a; apply Fin.ext
  match a with
  | ⟨0, _⟩ => show win0_2.index t (0 : Fin 2) * 512 + 1 * r.val = 512 * (rowBand t).val + r.val; omega
  | ⟨1, _⟩ => show win0_2.index t (1 : Fin 2) * 1024 + 1 * d.val = 1024 * (colBand t).val + d.val; omega

/-- What a point reads of the rows and of the weights. -/
theorem read_x (c : Dev nD) (t : Fin cfg0.N) (r : Fin 512) (k : Fin 4096) :
    (iblk m c 0 t (ix2 r k) : EReal) = rowsOf m c (ix2 ⟨512 * (rowBand t).val + r.val, by omega⟩ k) := by
  show V m c main_arg0 (((cfg0.win 0).blk t).view.emb (ix2 r k)) = _
  rw [emb_x, V_main_arg0]
theorem read_w (c : Dev nD) (t : Fin cfg0.N) (k : Fin 4096) (d : Fin 1024) :
    (iblk m c 1 t (ix2 k d) : EReal) = weightsOf m c (ix2 k ⟨1024 * (colBand t).val + d.val, by omega⟩) := by
  show V m c main_v0 (((cfg0.win 1).blk t).view.emb (ix2 k d)) = _
  rw [emb_w]
  exact weights_apply m c k _

/-- The product of the arrays, as the reference states it. -/
def product (x : FVec Ideal S32768x4096 .bf16) (w : FVec Ideal S4096x2048 .f32) : FVec Ideal S32768x2048 .f32 :=
  Host.dotGeneral (DotDims.plain 32768 4096 2048) none (extf (φ := .bf16) .f32 x (by decide)) w

/-- What a point leaves in the output's buffer is the product of the two blocks it reads. -/
theorem out_apply (x : Vec Ideal S512x4096 .bf16) (w : Vec Ideal S4096x1024 .bf16) (r : Fin 512) (d : Fin 1024) :
    (out0_2 x w (ix2 r d) : EReal) = matmul (F := Ideal) (φ₁ := .bf16) (φ₂ := .bf16) (DotDims.plain 512 4096 1024) none x w (constant ⟨2, ![512, 1024]⟩ .f32 0x00000000#32) (ix2 r d) := by
  have e : r0_2.emb (ix2 r d) = ix2 r d := by
    funext a; apply Fin.ext
    match a with
    | ⟨0, _⟩ => show 0 + 1 * r.val = r.val; omega
    | ⟨1, _⟩ => show 0 + 1 * d.val = d.val; omega
  have h : k0_pay1 (View.ld x r0_0) (View.ld w r0_1) = matmul (F := Ideal) (φ₁ := .bf16) (φ₂ := .bf16) (DotDims.plain 512 4096 1024) none x w (constant ⟨2, ![512, 1024]⟩ .f32 0x00000000#32) := by
    unfold k0_pay1
    simp only [shapeCast_self]
    have ex : View.ld x r0_0 = x := funext fun y => congrArg x (funext fun a => Fin.ext (by
      match a with
      | ⟨0, _⟩ => show 0 + 1 * (y 0).val = (y 0).val; omega
      | ⟨1, _⟩ => show 0 + 1 * (y 1).val = (y 1).val; omega))
    have ew : View.ld w r0_1 = w := funext fun y => congrArg w (funext fun a => Fin.ext (by
      match a with
      | ⟨0, _⟩ => show 0 + 1 * (y 0).val = (y 0).val; omega
      | ⟨1, _⟩ => show 0 + 1 * (y 1).val = (y 1).val; omega))
    rw [ex, ew]
    rfl
  unfold out0_2
  rw [h]
  conv_lhs => rw [← e]
  exact View.canon_cons_emb r0_2 _ _ _

/-- What a point writes back is its block of the product. -/
theorem point_apply (c : Dev nD) (t : Fin cfg0.N) (r : Fin 512) (d : Fin 1024) :
    (out0_2 (iblk m c 0 t) (iblk m c 1 t) (ix2 r d) : EReal)
      = product (rowsOf m c) (weightsOf m c) (((cfg0.win 2).blk t).view.emb (ix2 r d)) := by
  rw [emb_o, out_apply]
  exact tile_apply _ _ (extf (φ := .bf16) .f32 (rowsOf m c) (by decide)) (weightsOf m c) r d _ _ (fun k => read_x m c t r k) (fun k => read_w m c t k d)

/-- The blocks cover the result array. -/
theorem covers_o : (cfg0.win 2).Covers := by decide +kernel

/-- The kernel's result array is the product. -/
theorem whole (c : Dev nD) : (dats m 0 c).arrAt 2 cfg0.N = product (rowsOf m c) (weightsOf m c) := by
  refine (dats m 0 c).arrAt_eq_of_cover 2 _ (fun t _ => ?_) (covers_o.cover _ (Memref.isWhole_whole _))
  rw [Value.flushed2]
  refine funext fun y => ?_
  have hy := eq_ix2 (M := 512) (N := 1024) y
  rw [hy]
  exact point_apply m c t (y 0) (y 1)

/-- The kernel as printed runs, ends and leaves its arguments alone. -/
theorem frame_kernel : Cert.quiescent_BackKernel := fun m ρ _ => Cert.BackKernel.Gen.frame m ρ

/-- The same of the kernel read at the ideal instance. -/
theorem frame_ideal : Cert.quiescent_BackKernelIdeal := fun m ρ _ => Cert.BackKernelIdeal.Gen.frame m ρ

/-- The same of the reference read at the ideal instance. -/
theorem frame_reference : Cert.quiescent_BackReferenceIdeal := fun m ρ _ =>
  (θ_run Cert.BackReferenceIdeal.defs _ _).mono (fun r h => ⟨fun c => (h c).2,
      Idealize.ShloMosaic.sem_eq_zero_of_no_sems (by decide) r.2⟩)
    (Cert.BackReferenceIdeal.Value.run (F := Ideal) m ρ)

/-- Nothing is read differently at the ideal instance. -/
theorem preserves : Cert.preserves_BackKernel_BackKernelIdeal := trivial

/-- From memories that agree on the arguments both programs run and end with the same array. -/
theorem algebraic : Cert.algebraic_BackKernelIdeal_BackReferenceIdeal := by
  intro m g m' g' _ hargs
  refine ⟨fun c => (dats m 0 c).arrAt 2 cfg0.N, Value.run_blocks m g, ?_⟩
  refine (θ_run Cert.BackReferenceIdeal.defs _ _).mono (fun r h c => ⟨(h c).1.trans ?_, (h c).2⟩)
    (Cert.BackReferenceIdeal.Value.run (F := Ideal) m' g')
  rw [(hargs c).1, (hargs c).2]
  exact (whole m c).symm

end Cert.Back

end
-- ==== Proof.ExpertsRun.lean ====
/- The set-up of the run of the experts' first product: the host operations before the call, the tables the call reads,
   the windows' blocks and the staging buffers, over any float values. -/
module

public import proofs.«01_k».proof.Proof.Gen.ExpertsKernelIdeal.Launch
public import proofs.«01_k».proof.Proof.Gen.ExpertsKernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Experts

open Cert.ExpertsKernelIdeal Cert.ExpertsKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gate_up (grid0.coords t) (Memref.whole main_v30) (Memref.isWhole_whole _) (Memref.whole main_v34) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at any variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; `ok` proves it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_v30
abbrev htbM0_0 : tbM0_0.IsWhole := Memref.isWhole_whole _
abbrev tbM0_1 : Memref sig .tc .smem S1 .i32 := Memref.whole main_v34
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsKernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-! ## The kernel body on any staging memrefs: a subtype the run finds -/

/-- One staging buffer of output window 5, through which its contents are stated (`View.read_writes_of_cover`: the
    choice does not matter). -/
abbrev VO0_5 : View sig .tc .vmem S512x1024 .bf16 := (Memref.whole cc0_stg5_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S4096x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)

end Cert.Experts

end
-- ==== Proof.ExpertsBody.lean ====
/- The body of the experts' first product at a block that is in use and at one that is not. -/
module

public import proofs.«01_k».proof.Proof.ExpertsRun

@[expose] public section

set_option maxRecDepth 16384

noncomputable section

namespace Cert.Experts

open Cert.ExpertsKernelIdeal Cert.ExpertsKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The strided rows of a block of words: every eighth row, from row `s`. -/
abbrev R0 : LoadRect S4096x128 := ⟨![0, 0], S512x128.size, ![8, 1], inb_S4096x128_S512x128_0_0_s_8_1⟩
abbrev R1 : LoadRect S4096x128 := ⟨![1, 0], S512x128.size, ![8, 1], inb_S4096x128_S512x128_1_0_s_8_1⟩
abbrev R2 : LoadRect S4096x128 := ⟨![2, 0], S512x128.size, ![8, 1], inb_S4096x128_S512x128_2_0_s_8_1⟩
abbrev R3 : LoadRect S4096x128 := ⟨![3, 0], S512x128.size, ![8, 1], inb_S4096x128_S512x128_3_0_s_8_1⟩
abbrev R4 : LoadRect S4096x128 := ⟨![4, 0], S512x128.size, ![8, 1], inb_S4096x128_S512x128_4_0_s_8_1⟩
abbrev R5 : LoadRect S4096x128 := ⟨![5, 0], S512x128.size, ![8, 1], inb_S4096x128_S512x128_5_0_s_8_1⟩
abbrev R6 : LoadRect S4096x128 := ⟨![6, 0], S512x128.size, ![8, 1], inb_S4096x128_S512x128_6_0_s_8_1⟩
abbrev R7 : LoadRect S4096x128 := ⟨![7, 0], S512x128.size, ![8, 1], inb_S4096x128_S512x128_7_0_s_8_1⟩
abbrev rW : Rect S1x1x2048x1024 := Rect.unit (s := S1x1x2048x1024) ![0, 0, 0, 0] S1x1x2048x1024.size inb_S1x1x2048x1024_S1x1x2048x1024_0_0_0_0
abbrev rB : Rect S1x1x1x1024 := Rect.unit (s := S1x1x1x1024) ![0, 0, 0, 0] S1x1x1x1024.size inb_S1x1x1x1024_S1x1x1x1024_0_0_0_0
abbrev rO : Rect S512x1024 := Rect.unit (s := S512x1024) ![0, 0] S512x1024.size inb_S512x1024_S512x1024_0_0

/-- The words a strided load of a block finds. -/
def words (x : Vec F S4096x128 .i32) (r : LoadRect S4096x128) : r.shape.Idx → Elt F .i32 := fun y => x (r.idx y)

/-- The number of blocks in use, as the body reads it. -/
def word (c : Dev nD) (xt1 : TbBuf0 (F := F) c tbM0_1) : BitVec 32 :=
  View.readAt (Elt F) tbM0_1.view (Rect.unit (s := S1) ![0] S1.size inb_S1_S1_0).toLoadRect xt1 (Shape.Idx.first (by decide))

/-- What a block in use is given: the two products with their biases, through the clamped gate. -/
def busy (x0 : Vec F S4096x128 .i32) (x1 : Vec F S1x1x2048x1024 .bf16) (x2 : Vec F S1x1x2048x1024 .bf16) (x3 : Vec F S1x1x1x1024 .f32) (x4 : Vec F S1x1x1x1024 .f32) : FVec F S512x1024 .bf16 :=
  k0_pay1
    (k0_pay4 (words x0 R0) (words x0 R1) (words x0 R2) (words x0 R3) (words x0 R4) (words x0 R5) (words x0 R6) (words x0 R7) (View.ld x1 rW) (View.ld x3 rB))
    (k0_pay5 (words x0 R0) (words x0 R1) (words x0 R2) (words x0 R3) (words x0 R4) (words x0 R5) (words x0 R6) (words x0 R7) (View.ld x2 rW))
    (View.ld x4 rB)

/-- What the body leaves in the output's buffer: `busy` at a block in use, zeros at another. -/
def out0_5 (i : grid0.Coords) (x0 : Vec F S4096x128 .i32) (x1 : Vec F S1x1x2048x1024 .bf16) (x2 : Vec F S1x1x2048x1024 .bf16) (x3 : Vec F S1x1x1x1024 .f32) (x4 : Vec F S1x1x1x1024 .f32) (nv : BitVec 32) : Vec F S512x1024 .bf16 :=
  if k0_cond1 i nv = 1#1 then View.canon [⟨rO, busy x0 x1 x2 x3 x4⟩] else View.canon [⟨rO, k0_pay2 (F := F)⟩]

/-- One store of the whole buffer covers it. -/
theorem cover0_5 (p0 : Vec F S512x1024 .bf16) (y : S512x1024.Idx) :
    ∃ pc ∈ ([⟨rO, p0⟩] : List (View.Piece (Elt F) S512x1024 .bf16)), y ∈ pc.1.set :=
  View.cover_of_tiled [⟨rO, p0⟩] S512x1024.size (by rfl) y

/-- A block is either in use or not. -/
theorem cond2_iff (i : grid0.Coords) (nv : BitVec 32) : k0_cond2 i nv = 1#1 ↔ ¬ k0_cond1 i nv = 1#1 := by
  unfold k0_cond1 k0_cond2
  simp only [Scalar.cmpi, Scalar.extui, IntOp.cmpi]
  generalize BitVec.ofNat 32 (i 1).val = a
  have h : nv.sle a = !(a.slt nv) := by simp only [BitVec.sle, BitVec.slt]; by_cases h : a.toInt < nv.toInt <;> simp [h] <;> omega
  rw [h]
  cases a.slt nv <;> decide

set_option maxHeartbeats 2000000 in
/-- The body, on buffers that hold the blocks and the tables, ends with the output's buffer at `out0_5` of them. -/
theorem sound_kernel (c : Dev nD) (i : grid0.Coords) (arg4 : Memref sig .tc .vmem S4096x128 .i32) (harg4 : arg4.IsWhole) (arg5 : Memref sig .tc .vmem S1x1x2048x1024 .bf16) (harg5 : arg5.IsWhole) (arg6 : Memref sig .tc .vmem S1x1x2048x1024 .bf16) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S512x1024 .bf16) (harg9 : arg9.IsWhole)
    (x0 : Vec F S4096x128 .i32) (x1 : Vec F S1x1x2048x1024 .bf16) (x2 : Vec F S1x1x2048x1024 .bf16) (x3 : Vec F S1x1x1x1024 .f32) (x4 : Vec F S1x1x1x1024 .f32) (xt0 : TbBuf0 (F := F) c tbM0_0) (xt1 : TbBuf0 (F := F) c tbM0_1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (out0_5 i x0 x1 x2 x3 x4 (word c xt1)) ∗ tbPt0 c tbM0_0 xt0 ∗ tbPt0 c tbM0_1 xt1) -∗ K ⟨⟩))
      ⊢ wp frame (wpE (defs₀ (F := F)) Variants.none c none) E (cc0_moe_gate_up i tbM0_0 htbM0_0 tbM0_1 htbM0_1 arg4 harg4 arg5 harg5 arg6 harg6 arg7 harg7 arg8 harg8 arg9 harg9) K := by
  simp only [cc0_moe_gate_up_eq_skeleton]; unfold cc0_moe_gate_up_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitr [HT0 HT1]
  · iexists _; isplitr
    swap; · iexact H5
    ipureintro
    change View.read (Elt F) arg9.view (if hc : k0_cond2 i (word c xt1) = 1#1 then _ else _) = _
    unfold out0_5
    by_cases hc : k0_cond1 i (word c xt1) = 1#1
    · have h2 : ¬ k0_cond2 i (word c xt1) = 1#1 := fun h => (cond2_iff i _).mp h hc
      rw [dif_neg h2, if_pos hc]
      change View.read (Elt F) arg9.view (if hc : k0_cond1 i (word c xt1) = 1#1 then _ else _) = _
      rw [dif_pos hc]
      exact View.read_writes_eq_canon _ _ _ (cover0_5 _)
    · have h2 : k0_cond2 i (word c xt1) = 1#1 := (cond2_iff i _).mpr hc
      rw [dif_pos h2, if_neg hc]
      exact View.read_writes_eq_canon _ _ _ (cover0_5 _)
  isplitl [HT0]; · iexact HT0
  iexact HT1

end Cert.Experts

end
-- ==== Proof.ExpertsEntry.lean ====
/- The experts' first product: what a block in use holds at an index, of the words, the weights and the biases it reads. -/
module

public import proofs.«01_k».proof.Proof.ExpertsBody
public import Idealize.ShloMosaic.Lib.Pipeline.ValueKit
public import Idealize.ShloMosaic.Lib.MatmulPlain
public import Idealize.ShloMosaic.Lib.ValueLayout

@[expose] public section

set_option maxRecDepth 16384

noncomputable section

namespace Cert.Experts

open Idealize.ShloMosaic Idealize.ShloMosaic.TcCoe

/-! ## The entry, of plain functions -/

/-- The row of numbers that a row of words packs: the low halves first, then the high halves. -/
def act (f : Fin 1024 → BitVec 32) (k : Fin 2048) : EReal :=
  if h : k.val < 1024 then FloatOps.ofBits (F := Ideal) .f32 (f ⟨k.val, h⟩ <<< 16#32)
  else FloatOps.ofBits (F := Ideal) .f32 (f ⟨k.val - 1024, by omega⟩ &&& 4294901760#32)

/-- A row times a column, with a bias. -/
def line (f : Fin 1024 → BitVec 32) (w : Fin 2048 → EReal) (b : EReal) : EReal := (∑ k : Fin 2048, act f k * w k) + b

/-- The clamped gate of two numbers. -/
def gate (g u : Ideal .f32) : Ideal .f32 :=
  FloatOps.mulf
    (FloatOps.mulf (FloatOps.minimumf g (FloatOps.ofBits .f32 0x40E00000#32))
      (FloatOps.logistic (FloatOps.mulf (FloatOps.ofBits .f32 0x3FD9DB23#32) (FloatOps.minimumf g (FloatOps.ofBits .f32 0x40E00000#32)))))
    (FloatOps.addf (FloatOps.minimumf (FloatOps.ofBits .f32 0x40E00000#32) (FloatOps.maximumf (FloatOps.ofBits .f32 0xC0E00000#32) u))
      (FloatOps.ofBits .f32 0x3F800000#32))

/-! ## The kernel's body -/

open Cert.ExpertsKernelIdeal Cert.ExpertsKernelIdeal.Gen

/-- A row of a block's words: eight rows of 128 make one row of 1024. -/
def rowWords (x : IVec S4096x128 32) (r : Fin 512) (c : Fin 1024) : BitVec 32 :=
  x (ValueIdx.ix2 (⟨8 * r.val + c.val / 128, by omega⟩ : Fin 4096) (⟨c.val % 128, by omega⟩ : Fin 128))

/-- Eight pieces of 128 columns side by side, at an index. -/
theorem pieces {α : Type} (v : Fin 8 → S512x128.Idx → α)
    (h : Shape.Concatenates [S512x128, S512x128, S512x128, S512x128, S512x128, S512x128, S512x128, S512x128] S512x1024 1)
    (r : Fin 512) (c : Fin 1024) :
    concatenate S512x1024 1 [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩] h (ValueIdx.ix2 r c)
      = v ⟨c.val / 128, by omega⟩ (ValueIdx.ix2 r (⟨c.val % 128, by omega⟩ : Fin 128)) := by
  obtain ⟨s, hs⟩ : ∃ s : Fin 8, s = (⟨c.val / 128, by omega⟩ : Fin 8) := ⟨_, rfl⟩
  have hv : s.val = c.val / 128 := congrArg Fin.val hs
  rw [← hs]
  have key : ∀ (k : Nat) (hk : k < 8), s = ⟨k, hk⟩ →
      ∀ hx : ([⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩] : List ((s : Shape) × (s.Idx → α)))[k]'hk = ⟨S512x128, v s⟩,
      (((([⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩] : List ((s : Shape) × (s.Idx → α))).take k).map (·.1)).map fun s => if h : s.rank = S512x1024.rank then s.size ((1 : Fin S512x1024.rank).cast h.symm) else 0).sum = 128 * k →
      concatenate S512x1024 1 [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩] h (ValueIdx.ix2 r c)
        = v s (ValueIdx.ix2 r (⟨c.val % 128, by omega⟩ : Fin 128)) := fun k hk hsk hx hp => by
    refine concatenate_apply_piece (1 : Fin S512x1024.rank) [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩] h _ k hk S512x128 (v s) hx rfl (128 * k) hp _ (fun b hb => ?_) ?_
    · match b with
      | ⟨0, _⟩ => rfl
      | ⟨1, _⟩ => exact absurd rfl hb
    · have : s.val = k := congrArg Fin.val hsk
      show 128 * k + c.val % 128 = c.val
      omega
  clear hs
  fin_cases s
  · exact key 0 (by decide) rfl rfl rfl
  · exact key 1 (by decide) rfl rfl rfl
  · exact key 2 (by decide) rfl rfl rfl
  · exact key 3 (by decide) rfl rfl rfl
  · exact key 4 (by decide) rfl rfl rfl
  · exact key 5 (by decide) rfl rfl rfl
  · exact key 6 (by decide) rfl rfl rfl
  · exact key 7 (by decide) rfl rfl rfl

/-- The words the eight strided loads find, piece by piece. -/
def strided (x : IVec S4096x128 32) (s : Fin 8) : IVec S512x128 32 := fun y =>
  x (ValueIdx.ix2 (⟨8 * (y 0).val + s.val, by have : (y 0).val < 512 := (y 0).isLt; omega⟩ : Fin 4096) (⟨(y 1).val, (y 1).isLt⟩ : Fin 128))

theorem words_0 (x : Vec Ideal S4096x128 .i32) : words x R0 = strided x 0 := funext fun y => congrArg x (funext fun a => Fin.ext (by
  match a with
  | ⟨0, _⟩ => show 0 + 8 * (y 0).val = 8 * (y 0).val + 0; omega
  | ⟨1, _⟩ => show 0 + 1 * (y 1).val = (y 1).val; omega))
theorem words_1 (x : Vec Ideal S4096x128 .i32) : words x R1 = strided x 1 := funext fun y => congrArg x (funext fun a => Fin.ext (by
  match a with
  | ⟨0, _⟩ => show 1 + 8 * (y 0).val = 8 * (y 0).val + 1; omega
  | ⟨1, _⟩ => show 0 + 1 * (y 1).val = (y 1).val; omega))
theorem words_2 (x : Vec Ideal S4096x128 .i32) : words x R2 = strided x 2 := funext fun y => congrArg x (funext fun a => Fin.ext (by
  match a with
  | ⟨0, _⟩ => show 2 + 8 * (y 0).val = 8 * (y 0).val + 2; omega
  | ⟨1, _⟩ => show 0 + 1 * (y 1).val = (y 1).val; omega))
theorem words_3 (x : Vec Ideal S4096x128 .i32) : words x R3 = strided x 3 := funext fun y => congrArg x (funext fun a => Fin.ext (by
  match a with
  | ⟨0, _⟩ => show 3 + 8 * (y 0).val = 8 * (y 0).val + 3; omega
  | ⟨1, _⟩ => show 0 + 1 * (y 1).val = (y 1).val; omega))
theorem words_4 (x : Vec Ideal S4096x128 .i32) : words x R4 = strided x 4 := funext fun y => congrArg x (funext fun a => Fin.ext (by
  match a with
  | ⟨0, _⟩ => show 4 + 8 * (y 0).val = 8 * (y 0).val + 4; omega
  | ⟨1, _⟩ => show 0 + 1 * (y 1).val = (y 1).val; omega))
theorem words_5 (x : Vec Ideal S4096x128 .i32) : words x R5 = strided x 5 := funext fun y => congrArg x (funext fun a => Fin.ext (by
  match a with
  | ⟨0, _⟩ => show 5 + 8 * (y 0).val = 8 * (y 0).val + 5; omega
  | ⟨1, _⟩ => show 0 + 1 * (y 1).val = (y 1).val; omega))
theorem words_6 (x : Vec Ideal S4096x128 .i32) : words x R6 = strided x 6 := funext fun y => congrArg x (funext fun a => Fin.ext (by
  match a with
  | ⟨0, _⟩ => show 6 + 8 * (y 0).val = 8 * (y 0).val + 6; omega
  | ⟨1, _⟩ => show 0 + 1 * (y 1).val = (y 1).val; omega))
theorem words_7 (x : Vec Ideal S4096x128 .i32) : words x R7 = strided x 7 := funext fun y => congrArg x (funext fun a => Fin.ext (by
  match a with
  | ⟨0, _⟩ => show 7 + 8 * (y 0).val = 8 * (y 0).val + 7; omega
  | ⟨1, _⟩ => show 0 + 1 * (y 1).val = (y 1).val; omega))

/-- Loading a whole block reads it. -/
theorem ld_weights (x : Vec Ideal S1x1x2048x1024 .bf16) : View.ld x rW = x := funext fun y => congrArg x (funext fun a => Fin.ext (by
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega))
theorem ld_biases (x : Vec Ideal S1x1x1x1024 .f32) : View.ld x rB = x := funext fun y => congrArg x (funext fun a => Fin.ext (by
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega))

/-- The unpacked rows at an index. -/
theorem unpacked (x : IVec S4096x128 32) (r : Fin 512) (k : Fin 2048) :
    (k0_pay3 (F := Ideal) (strided x 0) (strided x 1) (strided x 2) (strided x 3) (strided x 4) (strided x 5) (strided x 6) (strided x 7) (ValueIdx.ix2 r k) : EReal)
      = act (rowWords x r) k := by
  unfold k0_pay3 act
  by_cases h : k.val < 1024
  · rw [dif_pos h]
    refine (concatenate_pair_apply_left (s₁ := S512x1024) (s₂ := S512x1024) (1 : Fin S512x2048.rank) _ _ _ _ rfl (ValueIdx.ix2 r (⟨k.val, h⟩ : Fin 1024)) (fun b => ?_)).trans ?_
    · match b with
      | ⟨0, _⟩ => rfl
      | ⟨1, _⟩ => rfl
    · show FloatOps.ofBits (F := Ideal) .f32 (IntOp.shli .vector (concatenate S512x1024 1 _ _ (ValueIdx.ix2 r (⟨k.val, h⟩ : Fin 1024))) 16#32) = _
      rw [pieces (strided x)]
      exact congrArg (FloatOps.ofBits (F := Ideal) .f32) (if_pos (by decide))
  · rw [dif_neg h]
    refine (concatenate_pair_apply_right (s₁ := S512x1024) (s₂ := S512x1024) (1 : Fin S512x2048.rank) _ _ _ _ rfl rfl (ValueIdx.ix2 r (⟨k.val - 1024, by omega⟩ : Fin 1024)) (fun b hb => ?_) ?_).trans ?_
    · match b with
      | ⟨0, _⟩ => rfl
      | ⟨1, _⟩ => exact absurd rfl hb
    · show k.val - 1024 + 1024 = k.val
      omega
    · show FloatOps.ofBits (F := Ideal) .f32 (IntOp.andi (concatenate S512x1024 1 _ _ (ValueIdx.ix2 r (⟨k.val - 1024, by omega⟩ : Fin 1024))) 4294901760#32) = _
      rw [pieces (strided x)]
      rfl

/-- A block's weights and biases, without their unit axes. -/
theorem flat_weights (w : Vec Ideal S1x1x2048x1024 .bf16) (k : Fin 2048) (d : Fin 1024) :
    shapeCast S2048x1024 w shapeCasts_S1x1x2048x1024_S2048x1024 (ValueIdx.ix2 k d) = w (ValueIdx.ix4 (0 : Fin 1) (0 : Fin 1) k d) := by
  refine shapeCast_apply _ _ _ _ ?_
  rw [Shape.rowMajor_val_two, Shape.rowMajor_val_four]
  show ((0 * 1 + 0) * 2048 + k.val) * 1024 + d.val = k.val * 1024 + d.val
  omega
theorem flat_biases (b : Vec Ideal S1x1x1x1024 .f32) (r : Fin 512) (d : Fin 1024) :
    broadcastTo S512x1024 (shapeCast S1x1024 b shapeCasts_S1x1x1x1024_S1x1024) broadcasts_S1x1024_S512x1024 (ValueIdx.ix2 r d) = b (ValueIdx.ix4 (0 : Fin 1) (0 : Fin 1) (0 : Fin 1) d) := by
  refine (ValueIdx.broadcastTo_1b_ab_apply _ broadcasts_S1x1024_S512x1024 _ _).trans ?_
  refine shapeCast_apply _ _ _ _ ?_
  rw [Shape.rowMajor_val_two, Shape.rowMajor_val_four]
  show ((0 * 1 + 0) * 1 + 0) * 1024 + d.val = 0 * 1024 + d.val
  omega

/-- One product of a block at an index. -/
theorem product_apply (x : IVec S4096x128 32) (w : Vec Ideal S1x1x2048x1024 .bf16) (r : Fin 512) (d : Fin 1024) :
    (k0_pay5 (F := Ideal) (strided x 0) (strided x 1) (strided x 2) (strided x 3) (strided x 4) (strided x 5) (strided x 6) (strided x 7) w (ValueIdx.ix2 r d) : EReal)
      = ∑ k : Fin 2048, act (rowWords x r) k * (w (ValueIdx.ix4 (0 : Fin 1) (0 : Fin 1) k d) : EReal) := by
  unfold k0_pay5
  refine (Ideal.matmul_plain_apply (M := 512) (K := 2048) (N := 1024) none (k0_pay3 (F := Ideal) _ _ _ _ _ _ _ _) (shapeCast S2048x1024 w shapeCasts_S1x1x2048x1024_S2048x1024) (constant ⟨2, ![512, 1024]⟩ .f32 0x00000000#32) r d).trans ?_
  have h0 : (constant ⟨2, ![512, 1024]⟩ .f32 0x00000000#32 : FVec Ideal _ _) (ValueIdx.ix2 r d) = (0 : EReal) := Ideal.ofBits_zero_f32
  rw [h0, zero_add]
  refine Finset.sum_congr rfl fun k _ => ?_
  rw [flat_weights]
  exact congrArg (fun a : EReal => a * (w (ValueIdx.ix4 (0 : Fin 1) (0 : Fin 1) k d) : EReal)) (unpacked x r k)

/-- What a block in use holds at an index. -/
theorem busy_apply (x0 : Vec Ideal S4096x128 .i32) (x1 x2 : Vec Ideal S1x1x2048x1024 .bf16) (x3 x4 : Vec Ideal S1x1x1x1024 .f32) (r : Fin 512) (d : Fin 1024) :
    (busy x0 x1 x2 x3 x4 (ValueIdx.ix2 r d) : EReal)
      = gate (line (rowWords x0 r) (fun k => x1 (ValueIdx.ix4 (0 : Fin 1) (0 : Fin 1) k d)) (x3 (ValueIdx.ix4 (0 : Fin 1) (0 : Fin 1) (0 : Fin 1) d)))
          (line (rowWords x0 r) (fun k => x2 (ValueIdx.ix4 (0 : Fin 1) (0 : Fin 1) k d)) (x4 (ValueIdx.ix4 (0 : Fin 1) (0 : Fin 1) (0 : Fin 1) d))) := by
  unfold busy
  rw [words_0, words_1, words_2, words_3, words_4, words_5, words_6, words_7, ld_weights, ld_weights, ld_biases, ld_biases]
  have hg : (k0_pay4 (F := Ideal) (strided x0 0) (strided x0 1) (strided x0 2) (strided x0 3) (strided x0 4) (strided x0 5) (strided x0 6) (strided x0 7) x1 x3 (ValueIdx.ix2 r d) : EReal)
      = line (rowWords x0 r) (fun k => x1 (ValueIdx.ix4 (0 : Fin 1) (0 : Fin 1) k d)) (x3 (ValueIdx.ix4 (0 : Fin 1) (0 : Fin 1) (0 : Fin 1) d)) :=
    congrArg₂ (fun a b : EReal => a + b) (product_apply x0 x1 r d) (flat_biases x3 r d)
  have hu : (addf (k0_pay5 (F := Ideal) (strided x0 0) (strided x0 1) (strided x0 2) (strided x0 3) (strided x0 4) (strided x0 5) (strided x0 6) (strided x0 7) x2)
        (broadcastTo S512x1024 (shapeCast S1x1024 x4 shapeCasts_S1x1x1x1024_S1x1024) broadcasts_S1x1024_S512x1024) (ValueIdx.ix2 r d) : EReal)
      = line (rowWords x0 r) (fun k => x2 (ValueIdx.ix4 (0 : Fin 1) (0 : Fin 1) k d)) (x4 (ValueIdx.ix4 (0 : Fin 1) (0 : Fin 1) (0 : Fin 1) d)) :=
    congrArg₂ (fun a b : EReal => a + b) (product_apply x0 x2 r d) (flat_biases x4 r d)
  exact congrArg₂ gate hg hu

end Cert.Experts

end
-- ==== Proof.ExpertsPlan.lean ====
/- Which expert's rows a block of 512 rows holds, and how many blocks are in use: the words the experts' first product
   looks up, as functions of how many rows each expert has. -/
module

public import proofs.«01_k».proof.Proof.ExpertsRun
public import Idealize.ShloMosaic.Lib.Routing.OpsOne
public import Idealize.ShloMosaic.Lib.StableHlo.Predicate
public import Idealize.ShloMosaic.Lib.StableHlo.ReadAt

@[expose] public section

set_option maxRecDepth 16384

noncomputable section

namespace Cert.Experts

open Cert.ExpertsKernelIdeal Cert.ExpertsKernelIdeal.Gen
open Idealize.ShloMosaic Idealize.ShloMosaic.TcCoe
open Idealize.ShloMosaic.Routing (shape0 shape2)

variable {F : FTy → Type} [FloatOps F]

/-! ## Counting rows -/

/-- The last row of the running sums down the columns of a widened mask counts each column's set bits: it is the sum
    over the rows. -/
theorem last_running {n k c : Nat} (hk : k + 1 = n) (hn : n < 2 ^ 32) (msk : IVec (shape2 n c) 1) (hw : 1 < 32)
    (h₁ : (shape2 n c).ReduceWindows (![n, 1] : Fin 2 → Nat) ![1, 1] ![k, 0] ![0, 0] (shape2 n c)) (hu : 0 < shape0.numel)
    (h₂ : (shape2 n c).ReducesTo [0] ⟨1, ![c]⟩) (init : IVec shape0 32) (hi : init ValueIdx.ix0 = 0#32) (w : Fin n) (hwk : w.val = k) (e : Fin c) :
    Host.reduceWindow IntOp.addi ![n, 1] ![1, 1] ![k, 0] ![0, 0] (extui 32 msk hw) init h₁ hu (ValueIdx.ix2 w e)
      = Host.reduce IntOp.addi (extui 32 msk hw) (constantI shape0 32 0#32) h₂ hu (ValueIdx.ix1 e) := by
  classical
  have hbit : ∀ i : (shape2 n c).Idx, extui 32 msk hw i = BitVec.ofNat 32 (if msk i = 1#1 then 1 else 0) := fun i => by
    rcases BitVec.eq_zero_or_eq_one (msk i) with hb | hb <;> (show BitVec.setWidth 32 (msk i) = _; rw [hb]; rfl)
  apply BitVec.eq_of_toNat_eq
  refine Eq.trans ?_ (StableHlo.Predicate.toNat_reduce_count_rows hn msk hw h₂ hu (ValueIdx.ix1 e)).symm
  rw [Routing.cumsum_rows hk (extui 32 msk hw) (fun i q => if h : i < n ∧ q < c then (if msk (ValueIdx.ix2 ⟨i, h.1⟩ ⟨q, h.2⟩) = 1#1 then 1 else 0) else 0)
    (fun i q => by
      rw [hbit]
      show _ = BitVec.ofNat 32 (if h : i.val < n ∧ q.val < c then _ else 0)
      rw [dif_pos ⟨i.isLt, q.isLt⟩]) init hi h₁ hu w e]
  have hsum : ((List.range (w.val + 1)).map fun i => if h : i < n ∧ e.val < c then (if msk (ValueIdx.ix2 ⟨i, h.1⟩ ⟨e.val, h.2⟩) = 1#1 then 1 else 0) else 0).sum
      = (Finset.univ.filter (fun p : Fin n => msk (ValueIdx.ix2 p e) = 1#1)).card := by
    rw [hwk, hk, Finset.card_filter]
    refine Eq.trans (Finset.sum_range (n := n) (fun i => if h : i < n ∧ e.val < c then (if msk (ValueIdx.ix2 ⟨i, h.1⟩ ⟨e.val, h.2⟩) = 1#1 then 1 else 0) else 0)) ?_
    exact Finset.sum_congr rfl fun p _ => dif_pos ⟨p.isLt, e.isLt⟩
  refine (congrArg (fun x => (BitVec.ofNat 32 x).toNat) hsum).trans ?_
  refine (BitVec.toNat_ofNat _ _).trans ?_
  rw [Nat.mod_eq_of_lt (lt_of_le_of_lt (Finset.card_le_univ _) (by rw [Fintype.card_fin]; exact hn))]
  refine congrArg Finset.card (Finset.filter_congr fun p _ => ?_)
  show msk (ValueIdx.ix2 p e) = 1#1 ↔ msk (StableHlo.Predicate.ij p e) = 1#1
  rw [Routing.ij_eq_ix2]

/-- The slice of one row reads that row. -/
theorem slice_last {α : Type} {n k c : Nat} (x : (shape2 n c).Idx → α) (h : (shape2 n c).Slices ![k, 0] (shape2 1 c)) (j : Fin c) (w : Fin n)
    (hw : w.val = k) : extractStridedSlice (shape2 1 c) ![k, 0] x h (ValueIdx.ix2 (0 : Fin 1) j) = x (ValueIdx.ix2 w j) := by
  subst hw
  refine congrArg x (funext fun a => Fin.ext ?_)
  match a with
  | ⟨0, _⟩ => exact Nat.add_zero _
  | ⟨1, _⟩ => exact Nat.zero_add _

/-! ## The plan -/

/-- Whether each routed row goes to each expert. -/
def hits (top : IVec S32768x4 32) : IVec S131072x32 1 :=
  cmpi .eq (broadcastInDim S131072x32 ![0, 1] bcast_S131072x1_S131072x32_0_1 (broadcastInDim S131072x1 ![0] bcast_S131072_S131072x1_0 (shapeCast S131072 top shapeCasts_S32768x4_S131072)))
    (broadcastInDim S131072x32 ![0, 1] bcast_S1x32_S131072x32_0_1 (broadcastInDim S1x32 ![1] bcast_S32_S1x32_1 (iotaInDim S32 32 0)))

/-- How many rows each expert has, as the last row of the running sums. -/
def countsRunning (top : IVec S32768x4 32) : IVec S32 32 :=
  shapeCast S32 (extractStridedSlice S1x32 ![131071, 0] (Host.reduceWindow IntOp.addi ![131072, 1] ![1, 1] ![131071, 0] ![0, 0] (extui 32 (hits top) natLt_1_32)
    (broadcastInDim S_ ![] bcast_S_S_ (constantI S_ 32 0#32)) reduceWindows_S131072x32_S131072x32_w131072s1p131071_0_w1s1p0_0 h_S_) slices_S131072x32_S1x32_131071_0) shapeCasts_S1x32_S32

/-- How many rows each expert has, as a sum over the rows. -/
def counts (h : S131072x32.ReducesTo [0] S32) (top : IVec S32768x4 32) : IVec S32 32 :=
  Host.reduce IntOp.addi (extui 32 (hits top) natLt_1_32) (constantI S_ 32 0#32) h h_S_

/-- The counts plus 511. -/
def shifted (cnt : IVec S32 32) : IVec S32 32 :=
  subi (addi cnt (broadcastInDim S32 ![] bcast_S_S32 (constantI S_ 32 512#32))) (broadcastInDim S32 ![] bcast_S_S32 (constantI S_ 32 1#32))

/-- The counts rounded up to whole blocks: the quotient by 512 rounded down, times 512. -/
def padded (x : IVec S32 32) : IVec S32 32 :=
  muli (select (andi (cmpi .ne (signi x) (broadcastInDim S32 ![] bcast_S_S32 (signi (id (constantI S_ 32 512#32))))) (cmpi .ne (Host.remsi x (broadcastInDim S32 ![] bcast_S_S32 (id (constantI S_ 32 512#32)))) (broadcastInDim S32 ![] bcast_S_S32 (constantI S_ 32 0#32)))) (subi (Host.divsi x (broadcastInDim S32 ![] bcast_S_S32 (id (constantI S_ 32 512#32)))) (broadcastInDim S32 ![] bcast_S_S32 (constantI S_ 32 1#32))) (Host.divsi x (broadcastInDim S32 ![] bcast_S_S32 (id (constantI S_ 32 512#32))))) (broadcastInDim S32 ![] bcast_S_S32 (constantI S_ 32 512#32))

/-- Where each expert's blocks end. -/
def ends (cnt : IVec S32 32) : IVec S32 32 :=
  Host.reduceWindow IntOp.addi ![32] ![1] ![31] ![0] (padded (shifted cnt)) (broadcastInDim S_ ![] bcast_S_S_ (constantI S_ 32 0#32)) reduceWindows_S32_S32_w32s1p31_0 h_S_

/-- Which ends are at or before each block's first row. -/
def before (e : IVec S32 32) : IVec S288x32 1 :=
  cmpi .sle (broadcastInDim S288x32 ![0, 1] bcast_S1x32_S288x32_0_1 (broadcastInDim S1x32 ![1] bcast_S32_S1x32_1 e))
    (broadcastInDim S288x32 ![0, 1] bcast_S288x1_S288x32_0_1 (broadcastInDim S288x1 ![0] bcast_S288_S288x1_0 (muli (iotaInDim S288 32 0) (broadcastInDim S288 ![] bcast_S_S288 (constantI S_ 32 512#32)))))

/-- Each block's expert. -/
def expert (e : IVec S32 32) : IVec S288 32 :=
  minsi (Host.reduce IntOp.addi (extui 32 (before e) natLt_1_32) (constantI S_ 32 0#32) reducesTo_S288x32_S288_d1 h_S_) (broadcastInDim S288 ![] bcast_S_S288 (constantI S_ 32 31#32))

/-- The last end. -/
def lastEnd (e : IVec S32 32) : IVec S_ 32 := shapeCast S_ (extractStridedSlice S1 ![31] e slices_S32_S1_31) shapeCasts_S1_S_

/-- How many blocks are in use: the quotient of the last end by 512, rounded down. -/
def inUse (x : IVec S_ 32) : IVec S_ 32 :=
  select (andi (cmpi .ne (signi x) (signi (id (constantI S_ 32 512#32)))) (cmpi .ne (Host.remsi x (id (constantI S_ 32 512#32))) (constantI S_ 32 0#32))) (subi (Host.divsi x (id (constantI S_ 32 512#32))) (constantI S_ 32 1#32)) (Host.divsi x (id (constantI S_ 32 512#32)))

/-- The two ways of counting agree. -/
theorem counts_eq (h : S131072x32.ReducesTo [0] S32) (top : IVec S32768x4 32) : countsRunning top = counts h top := by
  funext j
  have hj : j = ValueIdx.ix1 (j 0) := funext fun a => by match a with | ⟨0, _⟩ => rfl
  rw [hj]
  unfold countsRunning counts
  refine (shapeCast_apply _ _ (ValueIdx.ix1 (j 0)) (ValueIdx.ix2 (0 : Fin 1) (j 0)) ?_).trans ?_
  · rw [Shape.rowMajor_val_two, Shape.rowMajor_val_one]
    show 0 * 32 + (j 0).val = (j 0).val
    omega
  refine (slice_last _ slices_S131072x32_S1x32_131071_0 (j 0) (⟨131071, by norm_num⟩ : Fin 131072) rfl).trans ?_
  exact last_running (n := 131072) (k := 131071) rfl (by norm_num) (hits top) natLt_1_32 _ _ h _ rfl _ rfl (j 0)

/-- A block's expert is one of the 32. -/
theorem expert_le (e : IVec S32 32) (b : Fin 288) : (expert e (ValueIdx.ix1 b)).toNat ≤ 31 := by
  have h := StableHlo.Predicate.toNat_reduce_count_cols (n := 288) (m := 32) (by decide) (before e) natLt_1_32 reducesTo_S288x32_S288_d1 h_S_ (ValueIdx.ix1 b)
  have hle := (Finset.card_le_univ (Finset.univ.filter (fun q : Fin 32 => before e (StableHlo.Predicate.ij b q) = 1#1))).trans_eq (Fintype.card_fin 32)
  have h' := h.trans_le hle
  clear h hle
  unfold expert
  generalize Host.reduce IntOp.addi (extui 32 (before e) natLt_1_32) (constantI S_ 32 0#32) reducesTo_S288x32_S288_d1 h_S_ = x at h' ⊢
  show (IntOp.minsi (x (ValueIdx.ix1 b)) 31#32).toNat ≤ 31
  generalize x (ValueIdx.ix1 b) = y at h'
  unfold IntOp.minsi
  split
  · next hs =>
    have := BitVec.slt_iff_toInt_lt.1 hs
    rw [BitVec.toInt_eq_toNat_cond] at this
    rw [if_pos (by omega)] at this
    have h31 : (31#32 : BitVec 32).toInt = 31 := by decide
    omega
  · decide

end Cert.Experts
-- ==== Proof.ExpertsRef.lean ====
/- The experts' first product: what the reference's result holds at an index. -/
module

public import proofs.«01_k».proof.Proof.ExpertsEntry
public import proofs.«01_k».proof.Proof.ExpertsPlan
public import proofs.«01_k».proof.Proof.Gen.ExpertsReferenceIdeal
public import Idealize.ShloMosaic.Lib.StackMember

@[expose] public section

set_option maxRecDepth 16384

noncomputable section

namespace Cert.Experts

open Idealize.ShloMosaic Idealize.ShloMosaic.TcCoe

/-- A gather of whole matrices of a stack: where the start index at `(c, 0)` is the member `b`, entry `(c, p, q)` of the
    result is the stack's entry `(b, p, q)`. -/
theorem gather_member {α : Type} {N A B n : Nat} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (p : Fin A) (q : Fin B) (b : Fin N)
    (hb : idx (ValueIdx.ix2 c (0 : Fin 1)) = BitVec.ofNat 32 b.val) (hN : N < 2 ^ 31) :
    Host.gather (⟨[1, 2], [0], [], [], [0], 1, ![1, A, B], wf⟩ : GatherDims _ _ _) x idx (ValueIdx.ix3 c p q) = x (ValueIdx.ix3 b p q) := by
  unfold Host.gather
  refine congrArg x (funext fun a => Fin.ext ?_)
  match a with
  | ⟨0, _⟩ =>
    show GatherDims.start _ (ValueIdx.ix3 c p q) idx 0 + GatherDims.batchCoord _ (ValueIdx.ix3 c p q) 0 + GatherDims.offCoord _ (ValueIdx.ix3 c p q) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1, 2], [0], [], [], [0], 1, ![1, A, B], wf⟩ : GatherDims ⟨3, ![N, A, B]⟩ ⟨2, ![n, 1]⟩ ⟨3, ![n, A, B]⟩) (ValueIdx.ix3 c p q)
        ⟨List.idxOf (0 : Fin 3) [0], List.idxOf_lt_length_iff.2 (List.mem_singleton.mpr rfl)⟩ = ValueIdx.ix2 c (0 : Fin 1) := by
      funext b'; refine Fin.ext ?_
      match b' with
      | ⟨0, _⟩ => rfl
      | ⟨1, _⟩ => rfl
    have hbl := b.isLt
    have e := (congrArg idx hsi).trans hb
    refine (congrArg (fun v : BitVec 32 => min v.toInt.toNat (N - 1)) e).trans ?_
    rw [StableHlo.Predicate.toInt_ofNat_small _ (by omega)]
    show min ((b.val : Int)).toNat (N - 1) = b.val
    omega
  | ⟨1, _⟩ =>
    show GatherDims.start _ (ValueIdx.ix3 c p q) idx 1 + GatherDims.batchCoord _ (ValueIdx.ix3 c p q) 1 + GatherDims.offCoord _ (ValueIdx.ix3 c p q) 1 = p.val
    rw [GatherDims.batchCoord_eq_zero _ _ _ List.not_mem_nil]
    unfold GatherDims.start
    rw [dif_neg (show ¬ (1 : Fin 3) ∈ ([0] : List (Fin 3)) by decide)]
    simp only [Nat.add_zero, Nat.zero_add]
    rfl
  | ⟨2, _⟩ =>
    show GatherDims.start _ (ValueIdx.ix3 c p q) idx 2 + GatherDims.batchCoord _ (ValueIdx.ix3 c p q) 2 + GatherDims.offCoord _ (ValueIdx.ix3 c p q) 2 = q.val
    rw [GatherDims.batchCoord_eq_zero _ _ _ List.not_mem_nil]
    unfold GatherDims.start
    rw [dif_neg (show ¬ (2 : Fin 3) ∈ ([0] : List (Fin 3)) by decide)]
    simp only [Nat.add_zero, Nat.zero_add]
    rfl

open Cert.ExpertsReferenceIdeal Cert.ExpertsReferenceIdeal.Gen

/-! ## The reference's result in pieces -/

/-- The rows of numbers that the words pack, in blocks of 512. -/
def numbers (x : IVec S1179648x128 32) : FVec Ideal S288x512x2048 .f32 :=
  shapeCast S288x512x2048 (concatenate S147456x2048 1
    [⟨S147456x1024, (bitcastToFloat (F := Ideal) .f32 (Host.shli (shapeCast S147456x1024 x shapeCasts_S1179648x128_S147456x1024) (broadcastInDim S147456x1024 ![] bcast_S_S147456x1024 (constantI S_ 32 16#32))) : FVec Ideal S147456x1024 .f32)⟩,
     ⟨S147456x1024, (bitcastToFloat (F := Ideal) .f32 (andi (shapeCast S147456x1024 x shapeCasts_S1179648x128_S147456x1024) (broadcastInDim S147456x1024 ![] bcast_S_S147456x1024 (constantI S_ 32 4294901760#32))) : FVec Ideal S147456x1024 .f32)⟩]
    concatenates_S147456x1024_S147456x1024_S147456x2048_d1) shapeCasts_S147456x2048_S288x512x2048

/-- The look-up's indices. -/
def look (te : IVec S288 32) : IVec S288x1 32 :=
  broadcastInDim S288x1 ![0] bcast_S288_S288x1_0 (select (cmpi .slt te (broadcastInDim S288 ![] bcast_S_S288 (constantI S_ 32 0#32))) (addi te (broadcastInDim S288 ![] bcast_S_S288 (constantI S_ 32 32#32))) te)

/-- Each block's weights. -/
def memberWeights (w : FVec Ideal S2x32x2048x4096 .f32) (te : IVec S288 32) : FVec Ideal S288x2048x4096 .f32 :=
  Host.gather gather_S32x2048x4096_S288x1_S288x2048x4096_12_0_n_n_0_1_120484096 (shapeCast S32x2048x4096 (extractStridedSlice S1x32x2048x4096 ![0, 0, 0, 0] w slices_S2x32x2048x4096_S1x32x2048x4096_0_0_0_0) shapeCasts_S1x32x2048x4096_S32x2048x4096) (look te)

/-- Each block's biases. -/
def memberBiases (b : FVec Ideal S2x32x4096 .f32) (te : IVec S288 32) : FVec Ideal S288x4096 .f32 :=
  Host.gather gather_S32x4096_S288x1_S288x4096_1_0_n_n_0_1_14096 (shapeCast S32x4096 (extractStridedSlice S1x32x4096 ![0, 0, 0] b slices_S2x32x4096_S1x32x4096_0_0_0) shapeCasts_S1x32x4096_S32x4096) (look te)

/-- The products with their biases. -/
def lines (x : IVec S1179648x128 32) (w : FVec Ideal S2x32x2048x4096 .f32) (b : FVec Ideal S2x32x4096 .f32) (te : IVec S288 32) : FVec Ideal S288x512x4096 .f32 :=
  addf (Host.dotGeneral dot_S288x512x2048_S288x2048x4096_S288x512x4096_2_1_1_2_0_0 none (numbers x) (memberWeights w te))
    (broadcastInDim S288x512x4096 ![0, 1, 2] bcast_S288x1x4096_S288x512x4096_0_1_2 (broadcastInDim S288x1x4096 ![0, 2] bcast_S288x4096_S288x1x4096_0_2 (memberBiases b te)))

/-- The clamped gate of the two halves. -/
def gated (z : FVec Ideal S288x512x4096 .f32) : FVec Ideal S288x512x2048 .f32 :=
  mulf (mulf (minimumf (extractStridedSlice S288x512x2048 ![0, 0, 0] z slices_S288x512x4096_S288x512x2048_0_0_0) (broadcastInDim S288x512x2048 ![] bcast_S_S288x512x2048 (constant S_ .f32 0x40E00000#32)))
      (Host.divf (broadcastInDim S288x512x2048 ![] bcast_S_S288x512x2048 (constant S_ .f32 0x3F800000#32)) (addf (broadcastInDim S288x512x2048 ![] bcast_S_S288x512x2048 (constant S_ .f32 0x3F800000#32)) (Host.exp (Host.negf (mulf (broadcastInDim S288x512x2048 ![] bcast_S_S288x512x2048 (constant S_ .f32 0x3FD9DB23#32)) (minimumf (extractStridedSlice S288x512x2048 ![0, 0, 0] z slices_S288x512x4096_S288x512x2048_0_0_0) (broadcastInDim S288x512x2048 ![] bcast_S_S288x512x2048 (constant S_ .f32 0x40E00000#32)))))))))
    (addf (minimumf (broadcastInDim S288x512x2048 ![] bcast_S_S288x512x2048 (id (constant S_ .f32 0x40E00000#32))) (maximumf (broadcastInDim S288x512x2048 ![] bcast_S_S288x512x2048 (id (constant S_ .f32 0xC0E00000#32))) (extractStridedSlice S288x512x2048 ![0, 0, 2048] z slices_S288x512x4096_S288x512x2048_0_0_2048)))
      (broadcastInDim S288x512x2048 ![] bcast_S_S288x512x2048 (constant S_ .f32 0x3F800000#32)))

/-- Zeros at the blocks that are not in use. -/
def kept (y : FVec Ideal S288x512x2048 .f32) (nv : IVec S_ 32) : FVec Ideal S147456x2048 .bf16 :=
  truncf .bf16 (shapeCast S147456x2048 (select (broadcastInDim S288x512x2048 ![0, 1, 2] bcast_S288x1x1_S288x512x2048_0_1_2 (broadcastInDim S288x1x1 ![0] bcast_S288_S288x1x1_0 (cmpi .slt (iotaInDim S288 32 0) (broadcastInDim S288 ![] bcast_S_S288 nv)))) y
    (broadcastInDim S288x512x2048 ![] bcast_S_S288x512x2048 (id (constant S_ .f32 0x00000000#32)))) shapeCasts_S288x512x2048_S147456x2048) bitsLt_bf16_f32

/-- The result, of the arguments and the plan. -/
def result (x : IVec S1179648x128 32) (w : FVec Ideal S2x32x2048x4096 .f32) (b : FVec Ideal S2x32x4096 .f32) (te : IVec S288 32) (nv : IVec S_ 32) : FVec Ideal S147456x2048 .bf16 :=
  kept (gated (lines x w b te)) nv

/-! ## The pieces at an index -/

/-- A row of the words: eight rows of 128 make one row of 1024. -/
def flatWords (x : IVec S1179648x128 32) (p : Fin 147456) (c : Fin 1024) : BitVec 32 :=
  x (ValueIdx.ix2 (⟨8 * p.val + c.val / 128, by omega⟩ : Fin 1179648) (⟨c.val % 128, by omega⟩ : Fin 128))

theorem flat_words (x : IVec S1179648x128 32) (p : Fin 147456) (c : Fin 1024) :
    shapeCast S147456x1024 x shapeCasts_S1179648x128_S147456x1024 (ValueIdx.ix2 p c) = flatWords x p c := by
  refine shapeCast_apply _ _ _ _ ?_
  rw [Shape.rowMajor_val_two, Shape.rowMajor_val_two]
  show (8 * p.val + c.val / 128) * 128 + c.val % 128 = p.val * 1024 + c.val
  omega

theorem numbers_apply (x : IVec S1179648x128 32) (b : Fin 288) (r : Fin 512) (k : Fin 2048) :
    (numbers x (ValueIdx.ix3 b r k) : EReal) = act (flatWords x ⟨512 * b.val + r.val, by omega⟩) k := by
  unfold numbers act
  refine (shapeCast_apply _ _ _ (ValueIdx.ix2 (⟨512 * b.val + r.val, by omega⟩ : Fin 147456) k) ?_).trans ?_
  · rw [Shape.rowMajor_val_two, Shape.rowMajor_val_three]
    show (512 * b.val + r.val) * 2048 + k.val = (b.val * 512 + r.val) * 2048 + k.val
    omega
  by_cases h : k.val < 1024
  · rw [dif_pos h]
    refine (concatenate_pair_apply_left (s₁ := S147456x1024) (s₂ := S147456x1024) (1 : Fin S147456x2048.rank) _ _ _ _ rfl (ValueIdx.ix2 (⟨512 * b.val + r.val, by omega⟩ : Fin 147456) (⟨k.val, h⟩ : Fin 1024)) (fun b => ?_)).trans ?_
    · match b with
      | ⟨0, _⟩ => rfl
      | ⟨1, _⟩ => rfl
    · refine congrArg (FloatOps.ofBits (F := Ideal) .f32) ?_
      have hs : ∀ v : BitVec 32, IntOp.shli .host v 16#32 = v <<< 16#32 := fun v => if_pos (by decide)
      exact (hs _).trans (congrArg (fun v : BitVec 32 => v <<< 16#32) (flat_words x _ _))
  · rw [dif_neg h]
    refine (concatenate_pair_apply_right (s₁ := S147456x1024) (s₂ := S147456x1024) (1 : Fin S147456x2048.rank) _ _ _ _ rfl rfl (ValueIdx.ix2 (⟨512 * b.val + r.val, by omega⟩ : Fin 147456) (⟨k.val - 1024, by omega⟩ : Fin 1024)) (fun b hb => ?_) ?_).trans ?_
    · match b with
      | ⟨0, _⟩ => rfl
      | ⟨1, _⟩ => exact absurd rfl hb
    · show k.val - 1024 + 1024 = k.val
      omega
    · exact congrArg (FloatOps.ofBits (F := Ideal) .f32) (congrArg (fun v : BitVec 32 => v &&& 4294901760#32) (flat_words x _ _))

/-- An expert's number is looked up as it is. -/
theorem look_apply (te : IVec S288 32) (b : Fin 288) (e : Fin 32) (he : te (ValueIdx.ix1 b) = BitVec.ofNat 32 e.val) :
    look te (ValueIdx.ix2 b (0 : Fin 1)) = BitVec.ofNat 32 e.val := by
  have h : look te (ValueIdx.ix2 b (0 : Fin 1)) = Scalar.select (IntOp.cmpi .slt (te (ValueIdx.ix1 b)) 0#32) (IntOp.addi (te (ValueIdx.ix1 b)) 32#32) (te (ValueIdx.ix1 b)) := by
    refine (broadcastInDim_apply _ bcast_S288_S288x1_0 _ _ (ValueIdx.ix1 b) (fun a => ?_)).trans rfl
    match a with
    | ⟨0, _⟩ => rfl
  rw [h, he]
  clear h he
  revert e
  decide

theorem weights_at (w : FVec Ideal S2x32x2048x4096 .f32) (te : IVec S288 32) (b : Fin 288) (e : Fin 32) (he : te (ValueIdx.ix1 b) = BitVec.ofNat 32 e.val) (k : Fin 2048) (d : Fin 4096) :
    memberWeights w te (ValueIdx.ix3 b k d) = w (ValueIdx.ix4 (0 : Fin 2) e k d) := by
  refine (gather_member (N := 32) (A := 2048) (B := 4096) (n := 288) _ _ (look te) b k d e (look_apply te b e he) (by norm_num)).trans ?_
  refine (shapeCast_apply _ _ _ (ValueIdx.ix4 (0 : Fin 1) e k d) ?_).trans ?_
  · rw [Shape.rowMajor_val_four, Shape.rowMajor_val_three]
    show ((0 * 32 + e.val) * 2048 + k.val) * 4096 + d.val = (e.val * 2048 + k.val) * 4096 + d.val
    omega
  · refine congrArg w (funext fun a => Fin.ext ?_)
    match a with
    | ⟨0, _⟩ => rfl
    | ⟨1, _⟩ => exact Nat.zero_add _
    | ⟨2, _⟩ => exact Nat.zero_add _
    | ⟨3, _⟩ => exact Nat.zero_add _

theorem biases_at (v : FVec Ideal S2x32x4096 .f32) (te : IVec S288 32) (b : Fin 288) (e : Fin 32) (he : te (ValueIdx.ix1 b) = BitVec.ofNat 32 e.val) (d : Fin 4096) :
    memberBiases v te (ValueIdx.ix2 b d) = v (ValueIdx.ix3 (0 : Fin 2) e d) := by
  refine (Routing.gather_row (nb := 32) (B := 4096) (n := 288) gather_S32x4096_S288x1_S288x4096_1_0_n_n_0_1_14096 rfl rfl rfl rfl rfl _ (look te) b d e (look_apply te b e he) (by norm_num)).trans ?_
  refine (shapeCast_apply _ _ _ (ValueIdx.ix3 (0 : Fin 1) e d) ?_).trans ?_
  · rw [Shape.rowMajor_val_two, Shape.rowMajor_val_three]
    show (0 * 32 + e.val) * 4096 + d.val = e.val * 4096 + d.val
    omega
  · refine congrArg v (funext fun a => Fin.ext ?_)
    match a with
    | ⟨0, _⟩ => rfl
    | ⟨1, _⟩ => exact Nat.zero_add _
    | ⟨2, _⟩ => exact Nat.zero_add _

theorem lines_apply (x : IVec S1179648x128 32) (w : FVec Ideal S2x32x2048x4096 .f32) (v : FVec Ideal S2x32x4096 .f32) (te : IVec S288 32) (b : Fin 288) (e : Fin 32)
    (he : te (ValueIdx.ix1 b) = BitVec.ofNat 32 e.val) (r : Fin 512) (d : Fin 4096) :
    (lines x w v te (ValueIdx.ix3 b r d) : EReal)
      = line (flatWords x ⟨512 * b.val + r.val, by omega⟩) (fun k => w (ValueIdx.ix4 (0 : Fin 2) e k d)) (v (ValueIdx.ix3 (0 : Fin 2) e d)) := by
  refine congrArg₂ (fun a b : EReal => a + b) ?_ ?_
  · refine (StackMember.dotGeneral_stack_apply dot_S288x512x2048_S288x2048x4096_S288x512x4096_2_1_1_2_0_0_wf none (numbers x) (memberWeights w te) b r d).trans ?_
    exact Finset.sum_congr rfl fun k _ => congrArg₂ (fun a b : EReal => a * b) (numbers_apply x b r k) (weights_at w te b e he k d)
  · refine (broadcastInDim_apply _ bcast_S288x1x4096_S288x512x4096_0_1_2 _ _ (ValueIdx.ix3 b (0 : Fin 1) d) (fun a => ?_)).trans ?_
    · match a with
      | ⟨0, _⟩ => rfl
      | ⟨1, _⟩ => rfl
      | ⟨2, _⟩ => rfl
    refine (broadcastInDim_apply _ bcast_S288x4096_S288x1x4096_0_2 _ _ (ValueIdx.ix2 b d) (fun a => ?_)).trans (biases_at v te b e he d)
    match a with
    | ⟨0, _⟩ => rfl
    | ⟨1, _⟩ => rfl

theorem gated_apply (z : FVec Ideal S288x512x4096 .f32) (b : Fin 288) (r : Fin 512) (d : Fin 2048) :
    gated z (ValueIdx.ix3 b r d) = gate (z (ValueIdx.ix3 b r (⟨d.val, by omega⟩ : Fin 4096))) (z (ValueIdx.ix3 b r (⟨2048 + d.val, by omega⟩ : Fin 4096))) := by
  have e1 : extractStridedSlice S288x512x2048 ![0, 0, 0] z slices_S288x512x4096_S288x512x2048_0_0_0 (ValueIdx.ix3 b r d) = z (ValueIdx.ix3 b r (⟨d.val, by omega⟩ : Fin 4096)) := by
    refine congrArg z (funext fun a => Fin.ext ?_)
    match a with
    | ⟨0, _⟩ => exact Nat.zero_add _
    | ⟨1, _⟩ => exact Nat.zero_add _
    | ⟨2, _⟩ => exact Nat.zero_add _
  have e2 : extractStridedSlice S288x512x2048 ![0, 0, 2048] z slices_S288x512x4096_S288x512x2048_0_0_2048 (ValueIdx.ix3 b r d) = z (ValueIdx.ix3 b r (⟨2048 + d.val, by omega⟩ : Fin 4096)) := by
    refine congrArg z (funext fun a => Fin.ext ?_)
    match a with
    | ⟨0, _⟩ => exact Nat.zero_add _
    | ⟨1, _⟩ => exact Nat.zero_add _
    | ⟨2, _⟩ => rfl
  rw [← e1, ← e2]
  unfold gated
  generalize extractStridedSlice S288x512x2048 ![0, 0, 0] z slices_S288x512x4096_S288x512x2048_0_0_0 = g
  generalize extractStridedSlice S288x512x2048 ![0, 0, 2048] z slices_S288x512x4096_S288x512x2048_0_0_2048 = u
  have hl : ∀ a : EReal, Ideal.div (FloatOps.ofBits (F := Ideal) .f32 0x3F800000#32) ((FloatOps.ofBits (F := Ideal) .f32 0x3F800000#32 : EReal) + Ideal.exp (-a)) = Ideal.logistic a := fun a => by
    have h1 : (FloatOps.ofBits (F := Ideal) .f32 0x3F800000#32 : EReal) = 1 := Ideal.ofBits_one_f32
    rw [h1]
    rfl
  exact congrArg (fun s : EReal => (FloatOps.mulf (F := Ideal) (φ := .f32) (FloatOps.mulf (F := Ideal) (φ := .f32) (FloatOps.minimumf (g (ValueIdx.ix3 b r d)) (FloatOps.ofBits .f32 0x40E00000#32)) s)
    (FloatOps.addf (FloatOps.minimumf (FloatOps.ofBits .f32 0x40E00000#32) (FloatOps.maximumf (FloatOps.ofBits .f32 0xC0E00000#32) (u (ValueIdx.ix3 b r d)))) (FloatOps.ofBits .f32 0x3F800000#32))))
    (hl (FloatOps.mulf (F := Ideal) (φ := .f32) (FloatOps.ofBits .f32 0x3FD9DB23#32) (FloatOps.minimumf (g (ValueIdx.ix3 b r d)) (FloatOps.ofBits .f32 0x40E00000#32))))

/-- The result at an index, of the block `b` and the row `r` within it. -/
theorem result_apply (x : IVec S1179648x128 32) (w : FVec Ideal S2x32x2048x4096 .f32) (v : FVec Ideal S2x32x4096 .f32) (te : IVec S288 32) (nv : IVec S_ 32) (b : Fin 288) (e : Fin 32)
    (he : te (ValueIdx.ix1 b) = BitVec.ofNat 32 e.val) (r : Fin 512) (d : Fin 2048) :
    (result x w v te nv (ValueIdx.ix2 (⟨512 * b.val + r.val, by omega⟩ : Fin 147456) d) : EReal)
      = if IntOp.cmpi .slt (BitVec.ofNat 32 b.val) (nv ValueIdx.ix0) = 1#1 then
          gate (line (flatWords x ⟨512 * b.val + r.val, by omega⟩) (fun k => w (ValueIdx.ix4 (0 : Fin 2) e k (⟨d.val, by omega⟩ : Fin 4096))) (v (ValueIdx.ix3 (0 : Fin 2) e (⟨d.val, by omega⟩ : Fin 4096))))
            (line (flatWords x ⟨512 * b.val + r.val, by omega⟩) (fun k => w (ValueIdx.ix4 (0 : Fin 2) e k (⟨2048 + d.val, by omega⟩ : Fin 4096))) (v (ValueIdx.ix3 (0 : Fin 2) e (⟨2048 + d.val, by omega⟩ : Fin 4096))))
        else 0 := by
  unfold result kept
  have hg := gated_apply (lines x w v te) b r d
  rw [lines_apply x w v te b e he, lines_apply x w v te b e he] at hg
  rw [← hg]
  generalize gated (lines x w v te) = y
  have ht : ∀ (u : FVec Ideal S147456x2048 .f32) (i : S147456x2048.Idx), (truncf .bf16 u bitsLt_bf16_f32 i : EReal) = u i := fun _ _ => rfl
  refine (ht _ _).trans ?_
  refine (shapeCast_apply _ shapeCasts_S288x512x2048_S147456x2048 _ (ValueIdx.ix3 b r d) ?_).trans ?_
  · rw [Shape.rowMajor_val_two, Shape.rowMajor_val_three]
    show (b.val * 512 + r.val) * 2048 + d.val = (512 * b.val + r.val) * 2048 + d.val
    omega
  have hm : broadcastInDim S288x512x2048 ![0, 1, 2] bcast_S288x1x1_S288x512x2048_0_1_2 (broadcastInDim S288x1x1 ![0] bcast_S288_S288x1x1_0 (cmpi .slt (iotaInDim S288 32 0) (broadcastInDim S288 ![] bcast_S_S288 nv))) (ValueIdx.ix3 b r d)
      = IntOp.cmpi .slt (BitVec.ofNat 32 b.val) (nv ValueIdx.ix0) := by
    refine (broadcastInDim_apply _ bcast_S288x1x1_S288x512x2048_0_1_2 _ _ (ValueIdx.ix3 b (0 : Fin 1) (0 : Fin 1)) (fun a => ?_)).trans ?_
    · match a with
      | ⟨0, _⟩ => rfl
      | ⟨1, _⟩ => rfl
      | ⟨2, _⟩ => rfl
    refine (broadcastInDim_apply _ bcast_S288_S288x1x1_0 _ _ (ValueIdx.ix1 b) (fun a => ?_)).trans ?_
    · match a with
      | ⟨0, _⟩ => rfl
    refine congrArg (IntOp.cmpi .slt (BitVec.ofNat 32 b.val)) ?_
    exact broadcastInDim_apply _ bcast_S_S288 _ _ ValueIdx.ix0 (fun a => a.elim0)
  refine (congrArg (fun s : BitVec 1 => Scalar.select s (y (ValueIdx.ix3 b r d)) _) hm).trans ?_
  refine if_congr Iff.rfl rfl ?_
  exact Ideal.ofBits_zero_f32

end Cert.Experts

end
-- ==== Proof.ExpertsTables.lean ====
/- The experts' first product: the words its tables hold when the call is entered, the blocks its index maps name under
   them, and that every such block lies inside its array. -/
module

public import proofs.«01_k».proof.Proof.ExpertsPlan
public import proofs.«01_k».proof.Proof.ExpertsRun
public import Idealize.ShloMosaic.Lib.StableHlo.ReadAt

@[expose] public section

set_option maxRecDepth 16384

noncomputable section

namespace Cert.Experts

open Cert.ExpertsKernelIdeal Cert.ExpertsKernelIdeal.Gen
open Idealize.ShloMosaic Idealize.ShloMosaic.TcCoe

variable {F : FTy → Type} [FloatOps F]

/-! ## The blocks the index maps name -/

/-- The word a window's map looks up: the block's expert. -/
theorem te_at (pf : pre0.Contents (Elt F)) (i : grid0.Coords) (h) :
    pf.at 0 (Rect.unit (s := S288) ![(Scalar.indexCast (BitVec.ofNat 32 (i 1).val)).toNat] S1.size h) numel1_S1
      = (pf 0 : IVec S288 32) (ValueIdx.ix1 (i 1)) := by
  refine congrArg (pf 0) (funext fun a => Fin.ext ?_)
  match a with
  | ⟨0, _⟩ =>
    have h1 : (i 1).val < 288 := (i 1).isLt
    show (BitVec.ofNat 32 (i 1).val).toNat + 1 * 0 = (i 1).val
    rw [BitVec.toNat_ofNat]
    omega

theorem word_0 (j : Fin 2) : (BitVec.ofNat 32 j.val).toNat = j.val := by
  revert j; decide
theorem word_2 (j : Fin 2) : (Scalar.addi 2#32 (BitVec.ofNat 32 j.val)).toNat = 2 + j.val := by
  revert j; decide

theorem map_1 (pf : pre0.Contents (Elt F)) (i : grid0.Coords) :
    cc0_transform_1 k0_off1_inb numel1_S1 pf i = ![0, ((pf 0 : IVec S288 32) (ValueIdx.ix1 (i 1))).toNat, 0, (i 0).val] := by
  funext a
  match a with
  | ⟨0, _⟩ => rfl
  | ⟨1, _⟩ => exact congrArg BitVec.toNat (te_at pf i (k0_off1_inb i))
  | ⟨2, _⟩ => rfl
  | ⟨3, _⟩ => exact word_0 (i 0)
theorem map_2 (pf : pre0.Contents (Elt F)) (i : grid0.Coords) :
    cc0_transform_2 k0_off1_inb numel1_S1 pf i = ![0, ((pf 0 : IVec S288 32) (ValueIdx.ix1 (i 1))).toNat, 0, 2 + (i 0).val] := by
  funext a
  match a with
  | ⟨0, _⟩ => rfl
  | ⟨1, _⟩ => exact congrArg BitVec.toNat (te_at pf i (k0_off1_inb i))
  | ⟨2, _⟩ => rfl
  | ⟨3, _⟩ => exact word_2 (i 0)
theorem map_3 (pf : pre0.Contents (Elt F)) (i : grid0.Coords) :
    cc0_transform_3 k0_off1_inb numel1_S1 pf i = ![0, ((pf 0 : IVec S288 32) (ValueIdx.ix1 (i 1))).toNat, 0, (i 0).val] := by
  funext a
  match a with
  | ⟨0, _⟩ => rfl
  | ⟨1, _⟩ => exact congrArg BitVec.toNat (te_at pf i (k0_off1_inb i))
  | ⟨2, _⟩ => rfl
  | ⟨3, _⟩ => exact word_0 (i 0)
theorem map_4 (pf : pre0.Contents (Elt F)) (i : grid0.Coords) :
    cc0_transform_4 k0_off1_inb numel1_S1 pf i = ![0, ((pf 0 : IVec S288 32) (ValueIdx.ix1 (i 1))).toNat, 0, 2 + (i 0).val] := by
  funext a
  match a with
  | ⟨0, _⟩ => rfl
  | ⟨1, _⟩ => exact congrArg BitVec.toNat (te_at pf i (k0_off1_inb i))
  | ⟨2, _⟩ => rfl
  | ⟨3, _⟩ => exact word_2 (i 0)

/-- With every expert below 32, every block the maps name lies inside its array. -/
theorem ok_of_le (pf : pre0.Contents (Elt F)) (hb : ∀ b : Fin 288, ((pf 0 : IVec S288 32) (ValueIdx.ix1 b)).toNat ≤ 31) : ok0 pf := by
  unfold ok0
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inl rfl⟩, fun i => ⟨fun a => ?_, .inl rfl⟩⟩
  all_goals have h0 : (i 0).val < 2 := (i 0).isLt
  all_goals have h1 := hb (i 1)
  all_goals first | rw [map_1] | rw [map_2] | rw [map_3] | rw [map_4]
  all_goals generalize ((pf 0 : IVec S288 32) (ValueIdx.ix1 (i 1))).toNat = x at h1 ⊢
  all_goals generalize (i 0).val = y at h0 ⊢
  · match a with
    | ⟨0, _⟩ => show (0 + 1) * 1 ≤ 2; omega
    | ⟨1, _⟩ => show (x + 1) * 1 ≤ 32; omega
    | ⟨2, _⟩ => show (0 + 1) * 2048 ≤ 2048; omega
    | ⟨3, _⟩ => show (y + 1) * 1024 ≤ 4096; omega
  · match a with
    | ⟨0, _⟩ => show (0 + 1) * 1 ≤ 2; omega
    | ⟨1, _⟩ => show (x + 1) * 1 ≤ 32; omega
    | ⟨2, _⟩ => show (0 + 1) * 2048 ≤ 2048; omega
    | ⟨3, _⟩ => show (2 + y + 1) * 1024 ≤ 4096; omega
  · match a with
    | ⟨0, _⟩ => show (0 + 1) * 1 ≤ 2; omega
    | ⟨1, _⟩ => show (x + 1) * 1 ≤ 32; omega
    | ⟨2, _⟩ => show (0 + 1) * 1 ≤ 1; omega
    | ⟨3, _⟩ => show (y + 1) * 1024 ≤ 4096; omega
  · match a with
    | ⟨0, _⟩ => show (0 + 1) * 1 ≤ 2; omega
    | ⟨1, _⟩ => show (x + 1) * 1 ≤ 32; omega
    | ⟨2, _⟩ => show (0 + 1) * 1 ≤ 1; omega
    | ⟨3, _⟩ => show (2 + y + 1) * 1024 ≤ 4096; omega

/-! ## What the tables hold -/

variable (m : (ℓ : Loc nD τ sig) → Buf (Elt F) ℓ)

theorem V_expert (c : Dev nD) : V m c main_v30 = expert (ends (countsRunning (m ((c.tc : Thread nD τ).loc main_arg1)))) := by
  unfold V expert before ends padded shifted countsRunning hits
  after_reads_simp
  all_goals try simp -implicitDefEqProofs only [StableHlo.TRef.toBuf, StableHlo.TRef.ofBuf, cast_cast, cast_eq]
  all_goals try rfl

theorem V_inUse (c : Dev nD) : V m c main_v34 = shapeCast S1 (inUse (lastEnd (ends (countsRunning (m ((c.tc : Thread nD τ).loc main_arg1)))))) shapeCasts_S_S1 := by
  unfold V inUse lastEnd ends padded shifted countsRunning hits
  after_reads_simp
  all_goals try simp -implicitDefEqProofs only [StableHlo.TRef.toBuf, StableHlo.TRef.ofBuf, cast_cast, cast_eq]
  all_goals try rfl

theorem V_weights (c : Dev nD) : V m c main_v35 = truncf .bf16 (m ((c.tc : Thread nD τ).loc main_arg2)) bitsLt_bf16_f32 := by
  unfold V
  after_reads_simp
  all_goals try simp -implicitDefEqProofs only [StableHlo.TRef.toBuf, StableHlo.TRef.ofBuf, cast_cast, cast_eq]
  all_goals try rfl

theorem V_biases (c : Dev nD) : V m c main_v36 = broadcastInDim S2x32x1x4096 ![0, 1, 3] bcast_S2x32x4096_S2x32x1x4096_0_1_3 (m ((c.tc : Thread nD τ).loc main_arg3)) := by
  unfold V
  after_reads_simp
  all_goals try simp -implicitDefEqProofs only [StableHlo.TRef.toBuf, StableHlo.TRef.ofBuf, cast_cast, cast_eq]
  all_goals try rfl

/-- The tables' words keep every block inside its array. -/
theorem ok : Ok m := ok_of_le (tbl m) fun b =>
  (congrArg (fun v : IVec S288 32 => (v (ValueIdx.ix1 b)).toNat) (V_expert m (0 : Dev nD))).trans_le (expert_le _ b)

end Cert.Experts
-- ==== Proof.ExpertsPoint.lean ====
/- The experts' first product: what each grid point reads and leaves, for any tables whose words keep the blocks inside
   the arrays, and the array that the points' blocks make up. -/
module

public import proofs.«01_k».proof.Proof.ExpertsRef
public import proofs.«01_k».proof.Proof.ExpertsTables

@[expose] public section

set_option maxRecDepth 16384

noncomputable section

namespace Cert.Experts

open Cert.ExpertsKernelIdeal Cert.ExpertsKernelIdeal.Gen
open Idealize.ShloMosaic Idealize.ShloMosaic.TcCoe
open Idealize.ShloMosaic.Pipeline (Dat)

variable (a : (pcfg0 (F := Ideal)).Adm)

/-- A point's block of rows and its half of the columns. -/
def rowOf (t : Fin grid0.N) : Fin 288 := grid0.coords t 1
def halfOf (t : Fin grid0.N) : Fin 2 := grid0.coords t 0

theorem word_1 (b : Fin 288) : (BitVec.ofNat 32 b.val).toNat = b.val := by
  rw [BitVec.toNat_ofNat]
  omega

/-- Where each window's block lies. -/
theorem place_0 (t : Fin (cfg0 a).N) : ((cfg0 a).win 0).index t = ![(rowOf t).val, 0] := by
  refine Eq.trans (b := ![(BitVec.ofNat 32 (rowOf t).val).toNat, 0]) ?_ (by rw [word_1])
  rfl
theorem place_5 (t : Fin (cfg0 a).N) : ((cfg0 a).win 5).index t = ![(rowOf t).val, (halfOf t).val] := by
  refine Eq.trans (b := ![(BitVec.ofNat 32 (rowOf t).val).toNat, (BitVec.ofNat 32 (halfOf t).val).toNat]) ?_ (by rw [word_1, word_0])
  rfl
theorem place_1 (t : Fin (cfg0 a).N) : ((cfg0 a).win 1).index t = ![0, ((a.1 0 : IVec S288 32) (ValueIdx.ix1 (rowOf t))).toNat, 0, (halfOf t).val] := map_1 a.1 (grid0.coords t)
theorem place_2 (t : Fin (cfg0 a).N) : ((cfg0 a).win 2).index t = ![0, ((a.1 0 : IVec S288 32) (ValueIdx.ix1 (rowOf t))).toNat, 0, 2 + (halfOf t).val] := map_2 a.1 (grid0.coords t)
theorem place_3 (t : Fin (cfg0 a).N) : ((cfg0 a).win 3).index t = ![0, ((a.1 0 : IVec S288 32) (ValueIdx.ix1 (rowOf t))).toNat, 0, (halfOf t).val] := map_3 a.1 (grid0.coords t)
theorem place_4 (t : Fin (cfg0 a).N) : ((cfg0 a).win 4).index t = ![0, ((a.1 0 : IVec S288 32) (ValueIdx.ix1 (rowOf t))).toNat, 0, 2 + (halfOf t).val] := map_4 a.1 (grid0.coords t)

/-- A window's block of an array. -/
def readBlk (c : Dev nD) (w : Fin (cfg0 a).W) (t : Fin (cfg0 a).N) (A : Buf (Elt Ideal) ((c.tc : Thread nD τ).loc (Pipeline.arrRef spec0 w))) :=
  (((cfg0 a).win w).blk t).view.read (Elt Ideal) A

theorem read_0 (c : Dev nD) (t : Fin (cfg0 a).N) (A : IVec S1179648x128 32) (r : Fin 4096) (k : Fin 128) :
    readBlk a c 0 t A (ValueIdx.ix2 r k) = A (ValueIdx.ix2 (⟨4096 * (rowOf t).val + r.val, by omega⟩ : Fin 1179648) k) := by
  have e := place_0 a t
  refine congrArg A (funext fun x => Fin.ext ?_)
  match x with
  | ⟨0, _⟩ =>
    have e0 : ((cfg0 a).win 0).index t (0 : Fin 2) = (rowOf t).val := congrFun e (0 : Fin 2)
    show ((cfg0 a).win 0).index t (0 : Fin 2) * 4096 + 1 * r.val = 4096 * (rowOf t).val + r.val
    omega
  | ⟨1, _⟩ =>
    have e1 : ((cfg0 a).win 0).index t (1 : Fin 2) = 0 := congrFun e (1 : Fin 2)
    show ((cfg0 a).win 0).index t (1 : Fin 2) * 128 + 1 * k.val = k.val
    omega
theorem read_1 (c : Dev nD) (t : Fin (cfg0 a).N) (e : Fin 32) (he : ((a.1 0 : IVec S288 32) (ValueIdx.ix1 (rowOf t))).toNat = e.val) (A : FVec Ideal S2x32x2048x4096 .bf16) (k : Fin 2048) (d : Fin 1024) :
    readBlk a c 1 t A (ValueIdx.ix4 (0 : Fin 1) (0 : Fin 1) k d) = A (ValueIdx.ix4 (0 : Fin 2) e k (⟨1024 * (halfOf t).val + d.val, by omega⟩ : Fin 4096)) := by
  have q := place_1 a t
  refine congrArg A (funext fun x => Fin.ext ?_)
  match x with
  | ⟨0, _⟩ =>
    have e0 : ((cfg0 a).win 1).index t (0 : Fin 4) = 0 := congrFun q (0 : Fin 4)
    show ((cfg0 a).win 1).index t (0 : Fin 4) * 1 + 1 * 0 = 0
    omega
  | ⟨1, _⟩ =>
    have e1 : ((cfg0 a).win 1).index t (1 : Fin 4) = e.val := (congrFun q (1 : Fin 4)).trans he
    show ((cfg0 a).win 1).index t (1 : Fin 4) * 1 + 1 * 0 = e.val
    omega
  | ⟨2, _⟩ =>
    have e2 : ((cfg0 a).win 1).index t (2 : Fin 4) = 0 := congrFun q (2 : Fin 4)
    show ((cfg0 a).win 1).index t (2 : Fin 4) * 2048 + 1 * k.val = k.val
    omega
  | ⟨3, _⟩ =>
    have e3 : ((cfg0 a).win 1).index t (3 : Fin 4) = (halfOf t).val := congrFun q (3 : Fin 4)
    show ((cfg0 a).win 1).index t (3 : Fin 4) * 1024 + 1 * d.val = 1024 * (halfOf t).val + d.val
    omega
theorem read_2 (c : Dev nD) (t : Fin (cfg0 a).N) (e : Fin 32) (he : ((a.1 0 : IVec S288 32) (ValueIdx.ix1 (rowOf t))).toNat = e.val) (A : FVec Ideal S2x32x2048x4096 .bf16) (k : Fin 2048) (d : Fin 1024) :
    readBlk a c 2 t A (ValueIdx.ix4 (0 : Fin 1) (0 : Fin 1) k d) = A (ValueIdx.ix4 (0 : Fin 2) e k (⟨2048 + (1024 * (halfOf t).val + d.val), by omega⟩ : Fin 4096)) := by
  have q := place_2 a t
  refine congrArg A (funext fun x => Fin.ext ?_)
  match x with
  | ⟨0, _⟩ =>
    have e0 : ((cfg0 a).win 2).index t (0 : Fin 4) = 0 := congrFun q (0 : Fin 4)
    show ((cfg0 a).win 2).index t (0 : Fin 4) * 1 + 1 * 0 = 0
    omega
  | ⟨1, _⟩ =>
    have e1 : ((cfg0 a).win 2).index t (1 : Fin 4) = e.val := (congrFun q (1 : Fin 4)).trans he
    show ((cfg0 a).win 2).index t (1 : Fin 4) * 1 + 1 * 0 = e.val
    omega
  | ⟨2, _⟩ =>
    have e2 : ((cfg0 a).win 2).index t (2 : Fin 4) = 0 := congrFun q (2 : Fin 4)
    show ((cfg0 a).win 2).index t (2 : Fin 4) * 2048 + 1 * k.val = k.val
    omega
  | ⟨3, _⟩ =>
    have e3 : ((cfg0 a).win 2).index t (3 : Fin 4) = 2 + (halfOf t).val := congrFun q (3 : Fin 4)
    show ((cfg0 a).win 2).index t (3 : Fin 4) * 1024 + 1 * d.val = 2048 + (1024 * (halfOf t).val + d.val)
    omega
theorem read_3 (c : Dev nD) (t : Fin (cfg0 a).N) (e : Fin 32) (he : ((a.1 0 : IVec S288 32) (ValueIdx.ix1 (rowOf t))).toNat = e.val) (A : FVec Ideal S2x32x1x4096 .f32) (d : Fin 1024) :
    readBlk a c 3 t A (ValueIdx.ix4 (0 : Fin 1) (0 : Fin 1) (0 : Fin 1) d) = A (ValueIdx.ix4 (0 : Fin 2) e (0 : Fin 1) (⟨1024 * (halfOf t).val + d.val, by omega⟩ : Fin 4096)) := by
  have q := place_3 a t
  refine congrArg A (funext fun x => Fin.ext ?_)
  match x with
  | ⟨0, _⟩ =>
    have e0 : ((cfg0 a).win 3).index t (0 : Fin 4) = 0 := congrFun q (0 : Fin 4)
    show ((cfg0 a).win 3).index t (0 : Fin 4) * 1 + 1 * 0 = 0
    omega
  | ⟨1, _⟩ =>
    have e1 : ((cfg0 a).win 3).index t (1 : Fin 4) = e.val := (congrFun q (1 : Fin 4)).trans he
    show ((cfg0 a).win 3).index t (1 : Fin 4) * 1 + 1 * 0 = e.val
    omega
  | ⟨2, _⟩ =>
    have e2 : ((cfg0 a).win 3).index t (2 : Fin 4) = 0 := congrFun q (2 : Fin 4)
    show ((cfg0 a).win 3).index t (2 : Fin 4) * 1 + 1 * 0 = 0
    omega
  | ⟨3, _⟩ =>
    have e3 : ((cfg0 a).win 3).index t (3 : Fin 4) = (halfOf t).val := congrFun q (3 : Fin 4)
    show ((cfg0 a).win 3).index t (3 : Fin 4) * 1024 + 1 * d.val = 1024 * (halfOf t).val + d.val
    omega
theorem read_4 (c : Dev nD) (t : Fin (cfg0 a).N) (e : Fin 32) (he : ((a.1 0 : IVec S288 32) (ValueIdx.ix1 (rowOf t))).toNat = e.val) (A : FVec Ideal S2x32x1x4096 .f32) (d : Fin 1024) :
    readBlk a c 4 t A (ValueIdx.ix4 (0 : Fin 1) (0 : Fin 1) (0 : Fin 1) d) = A (ValueIdx.ix4 (0 : Fin 2) e (0 : Fin 1) (⟨2048 + (1024 * (halfOf t).val + d.val), by omega⟩ : Fin 4096)) := by
  have q := place_4 a t
  refine congrArg A (funext fun x => Fin.ext ?_)
  match x with
  | ⟨0, _⟩ =>
    have e0 : ((cfg0 a).win 4).index t (0 : Fin 4) = 0 := congrFun q (0 : Fin 4)
    show ((cfg0 a).win 4).index t (0 : Fin 4) * 1 + 1 * 0 = 0
    omega
  | ⟨1, _⟩ =>
    have e1 : ((cfg0 a).win 4).index t (1 : Fin 4) = e.val := (congrFun q (1 : Fin 4)).trans he
    show ((cfg0 a).win 4).index t (1 : Fin 4) * 1 + 1 * 0 = e.val
    omega
  | ⟨2, _⟩ =>
    have e2 : ((cfg0 a).win 4).index t (2 : Fin 4) = 0 := congrFun q (2 : Fin 4)
    show ((cfg0 a).win 4).index t (2 : Fin 4) * 1 + 1 * 0 = 0
    omega
  | ⟨3, _⟩ =>
    have e3 : ((cfg0 a).win 4).index t (3 : Fin 4) = 2 + (halfOf t).val := congrFun q (3 : Fin 4)
    show ((cfg0 a).win 4).index t (3 : Fin 4) * 1024 + 1 * d.val = 2048 + (1024 * (halfOf t).val + d.val)
    omega

/-- Where an index of the output's block lies in the output's array. -/
theorem emb_5 (t : Fin (cfg0 a).N) (r : Fin 512) (d : Fin 1024) :
    (((cfg0 a).win 5).blk t).view.emb (ValueIdx.ix2 r d)
      = ValueIdx.ix2 (⟨512 * (rowOf t).val + r.val, by omega⟩ : Fin 147456) (⟨1024 * (halfOf t).val + d.val, by omega⟩ : Fin 2048) := by
  have e := place_5 a t
  refine funext fun x => Fin.ext ?_
  match x with
  | ⟨0, _⟩ =>
    have e0 : ((cfg0 a).win 5).index t (0 : Fin 2) = (rowOf t).val := congrFun e (0 : Fin 2)
    show ((cfg0 a).win 5).index t (0 : Fin 2) * 512 + 1 * r.val = 512 * (rowOf t).val + r.val
    omega
  | ⟨1, _⟩ =>
    have e1 : ((cfg0 a).win 5).index t (1 : Fin 2) = (halfOf t).val := congrFun e (1 : Fin 2)
    show ((cfg0 a).win 5).index t (1 : Fin 2) * 1024 + 1 * d.val = 1024 * (halfOf t).val + d.val
    omega

/-! ## What a point leaves -/

/-- The body's test is whether the block's number is below the number in use. -/
theorem cond1_iff (t : Fin grid0.N) (nv : BitVec 32) : k0_cond1 (grid0.coords t) nv = 1#1 ↔ IntOp.cmpi .slt (BitVec.ofNat 32 (rowOf t).val) nv = 1#1 := by
  unfold k0_cond1 rowOf
  simp only [Scalar.cmpi, Scalar.extui]
  generalize IntOp.cmpi .slt (BitVec.ofNat 32 (grid0.coords t 1).val) nv = x
  revert x
  decide

/-- One store of the whole buffer leaves what it stores. -/
theorem stored (p : FVec Ideal S512x1024 .bf16) (r : Fin 512) (d : Fin 1024) :
    View.canon (Val := Elt Ideal) (e := .bf16) [⟨rO, p⟩] (ValueIdx.ix2 r d) = p (ValueIdx.ix2 r d) := by
  have e : rO.emb (ValueIdx.ix2 r d) = ValueIdx.ix2 r d := by
    funext x; apply Fin.ext
    match x with
    | ⟨0, _⟩ => show 0 + 1 * r.val = r.val; omega
    | ⟨1, _⟩ => show 0 + 1 * d.val = d.val; omega
  conv_lhs => rw [← e]
  exact View.canon_cons_emb rO _ _ _

/-- What a point leaves in the output's buffer, at an index. -/
theorem point (c : Dev nD) (t : Fin (cfg0 a).N) (e : Fin 32) (he : ((a.1 0 : IVec S288 32) (ValueIdx.ix1 (rowOf t))).toNat = e.val)
    (A0 : IVec S1179648x128 32) (A1 : FVec Ideal S2x32x2048x4096 .bf16) (A3 : FVec Ideal S2x32x1x4096 .f32) (nv : BitVec 32) (r : Fin 512) (d : Fin 1024) :
    (out0_5 (F := Ideal) (grid0.coords t) (readBlk a c 0 t A0) (readBlk a c 1 t A1) (readBlk a c 2 t A1) (readBlk a c 3 t A3) (readBlk a c 4 t A3) nv (ValueIdx.ix2 r d) : EReal)
      = if IntOp.cmpi .slt (BitVec.ofNat 32 (rowOf t).val) nv = 1#1 then
          gate (line (flatWords A0 ⟨512 * (rowOf t).val + r.val, by omega⟩) (fun k => A1 (ValueIdx.ix4 (0 : Fin 2) e k (⟨1024 * (halfOf t).val + d.val, by omega⟩ : Fin 4096))) (A3 (ValueIdx.ix4 (0 : Fin 2) e (0 : Fin 1) (⟨1024 * (halfOf t).val + d.val, by omega⟩ : Fin 4096))))
            (line (flatWords A0 ⟨512 * (rowOf t).val + r.val, by omega⟩) (fun k => A1 (ValueIdx.ix4 (0 : Fin 2) e k (⟨2048 + (1024 * (halfOf t).val + d.val), by omega⟩ : Fin 4096))) (A3 (ValueIdx.ix4 (0 : Fin 2) e (0 : Fin 1) (⟨2048 + (1024 * (halfOf t).val + d.val), by omega⟩ : Fin 4096))))
        else 0 := by
  unfold out0_5
  by_cases h : k0_cond1 (grid0.coords t) nv = 1#1
  · rw [if_pos h, if_pos ((cond1_iff _ _).mp h)]
    refine (stored _ r d).trans ((busy_apply _ _ _ _ _ r d).trans ?_)
    have hw : rowWords (readBlk a c 0 t A0) r = flatWords A0 ⟨512 * (rowOf t).val + r.val, by omega⟩ := funext fun k => by
      refine (read_0 a c t A0 _ _).trans (congrArg A0 (funext fun x => Fin.ext ?_))
      match x with
      | ⟨0, _⟩ =>
        show 4096 * (rowOf t).val + (8 * r.val + k.val / 128) = 8 * (512 * (rowOf t).val + r.val) + k.val / 128
        omega
      | ⟨1, _⟩ => rfl
    refine congrArg₂ gate ?_ ?_
    · exact congr (congr (congrArg line hw) (funext fun k => read_1 a c t e he A1 k d)) (read_3 a c t e he A3 d)
    · exact congr (congr (congrArg line hw) (funext fun k => read_2 a c t e he A1 k d)) (read_4 a c t e he A3 d)
  · rw [if_neg h, if_neg (fun h' => h ((cond1_iff _ _).mpr h'))]
    exact (stored _ r d).trans Ideal.ofBits_zero_bf16

/-! ## The array the points make up -/

/-- Tables that keep every block inside its array. -/
def someAdm : (pcfg0 (F := Ideal)).Adm := ⟨fun j => match j with | ⟨0, _⟩ => (fun _ => 0#32 : IVec S288 32) | ⟨1, _⟩ => (fun _ => 0#32 : IVec S1 32), ok_of_le _ fun _ => Nat.zero_le _⟩

/-- The output's blocks cover its array, whatever the tables hold. -/
theorem covers_some : ((cfg0 someAdm).win 5).Covers := by decide +kernel
theorem covers_5 : ((cfg0 a).win 5).Covers := covers_some

/-- The output's array after every point. -/
def arrOf {c : Dev nD} (dat : Dat τ (Elt Ideal) Unit ℕ (UR sig nD τ) ℕ (cfg0 a) c) : FVec Ideal S147456x2048 .bf16 := dat.arrAt 5 (cfg0 a).N

/-- The output's array, where every point leaves its block of `G`. -/
theorem whole_of {c : Dev nD} (dat : Dat τ (Elt Ideal) Unit ℕ (UR sig nD τ) ℕ (cfg0 a) c) (G : FVec Ideal S147456x2048 .bf16)
    (o : Fin (cfg0 a).N → Vec Ideal S512x1024 .bf16) (ho : ∀ t, dat.after 5 t = o t)
    (hG : ∀ (t : Fin (cfg0 a).N) (r : Fin 512) (d : Fin 1024), o t (ValueIdx.ix2 r d)
      = G (ValueIdx.ix2 (⟨512 * (rowOf t).val + r.val, by omega⟩ : Fin 147456) (⟨1024 * (halfOf t).val + d.val, by omega⟩ : Fin 2048))) :
    arrOf a dat = G := by
  unfold arrOf
  refine dat.arrAt_eq_of_cover 5 _ (fun t _ => ?_) ((covers_5 a).cover _ (Memref.isWhole_whole _))
  show ((cfg0 a).win 5).cut (grid0.coords t) (dat.after 5 t) = _
  rw [ho]
  have key : ∀ y : S512x1024.Idx, o t y = G ((((cfg0 a).win 5).blk t).view.emb y) := fun y => by
    have hy : y = ValueIdx.ix2 (y 0 : Fin 512) (y 1 : Fin 1024) := funext fun x => by
      match x with
      | ⟨0, _⟩ => rfl
      | ⟨1, _⟩ => rfl
    rw [hy]
    refine (hG t (y 0) (y 1)).trans ?_
    exact congrArg G (emb_5 a t (y 0) (y 1)).symm
  exact funext key

end Cert.Experts

end
-- ==== Proof.ExpertsTerm.lean ====
/- The experts' first product: the reference's printed result is its pieces, composed. -/
module

public import proofs.«01_k».proof.Proof.ExpertsRef
public import proofs.«01_k».proof.Proof.Gen.ExpertsReferenceIdeal.Run

@[expose] public section

set_option maxRecDepth 16384

noncomputable section

namespace Cert.Experts

open Idealize.ShloMosaic Idealize.ShloMosaic.TcCoe
open Cert.ExpertsReferenceIdeal Cert.ExpertsReferenceIdeal.Gen

/-! ## The printed term -/

variable (m : (ℓ : Loc nD τ sig) → Buf (Elt Ideal) ℓ)

/-- The reference's result is those pieces of its arguments. -/
theorem res_eq (c : Dev nD) : Cert.ExpertsReferenceIdeal.Value.res_main_v86 m c
    = result (m ((c.tc : Thread nD τ).loc main_arg0)) (m ((c.tc : Thread nD τ).loc main_arg2)) (m ((c.tc : Thread nD τ).loc main_arg3))
        (expert (ends (counts reducesTo_S131072x32_S32_d0 (m ((c.tc : Thread nD τ).loc main_arg1)))))
        (inUse (lastEnd (ends (counts reducesTo_S131072x32_S32_d0 (m ((c.tc : Thread nD τ).loc main_arg1)))))) := by
  unfold Cert.ExpertsReferenceIdeal.Value.res_main_v86 result kept gated lines memberWeights memberBiases look numbers expert before inUse lastEnd ends padded shifted counts hits
  rfl

end Cert.Experts

end
-- ==== Proof.ExpertsFrame.lean ====
/- The run of the experts' first product: what every point leaves, and that the arguments end as they were. -/
module

public import proofs.«01_k».proof.Proof.ExpertsBody
public import Idealize.ShloMosaic.Lib.Claim

@[expose] public section

set_option maxRecDepth 16384

noncomputable section

namespace Cert.Experts

open Cert.ExpertsKernelIdeal Cert.ExpertsKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the outputs' staging buffers hold after the body at point `t`: the run's contents at
    the point's memrefs and input blocks. -/
def outsAt0 (hO : Ok m) (c : Dev nD) (t : Fin (cfgM m hO).N) : Vec F S512x1024 .bf16 :=
  out0_5 (grid0.coords t) (iblk m hO c 0 t) (iblk m hO c 1 t) (iblk m hO c 2 t) (iblk m hO c 3 t) (iblk m hO c 4 t) (word c (tbl m 1))

/-- No point leaves the output's buffer alone, whatever the tables hold. -/
theorem idle0_eq (pf : pre0.Contents (Elt F)) (w : Fin 6) (i : grid0.Coords) : idle0 pf w i = false := by
  match w with
  | ⟨0, _⟩ => rfl
  | ⟨1, _⟩ => rfl
  | ⟨2, _⟩ => rfl
  | ⟨3, _⟩ => rfl
  | ⟨4, _⟩ => rfl
  | ⟨5, _⟩ =>
    show (!(k0_cond1 i (pf.atD 1 ![0]) == 1#1) && !(k0_cond2 i (pf.atD 1 ![0]) == 1#1)) = false
    have h := cond2_iff i (pf.atD 1 ![0])
    by_cases h1 : k0_cond1 i (pf.atD 1 ![0]) = 1#1
    · rw [h1]; rfl
    · rw [h.mpr h1]; exact Bool.and_false _
theorem idle_eq (a : (pcfg0 (F := F)).Adm) (w : Fin 6) (t : Fin (cfg0 a).N) : (cfg0 a).idle w ((cfg0 a).grid.coords t) = false :=
  idle0_eq a.1 w _

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ (iblk m hO c 0 t) (iblk m hO c 1 t) (iblk m hO c 2 t) (iblk m hO c 3 t) (iblk m hO c 4 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation of a pipeline none of whose windows is ever left alone. -/
theorem obligation_of {cfg : Pipeline.Cfg sig Λ₀} {c : Dev nD} (dat : Dat τ (Elt F) Unit ℕ (UR sig nD τ) ℕ cfg c)
    (hi : ∀ w t, cfg.idle w (cfg.grid.coords t) = false)
    (h : ∀ t : Fin cfg.N, iprop(dat.Φ t.castSucc ∗ dat.owesAt () t.castSucc
          ∗ bigSep Finset.univ fun w : Fin cfg.W => iprop(∃ d, owns (c : Thread nD τ) ((cfg.win w).stage (cfg.slots t w)) fullShare (dat.before w t d)))
        ⊢ wp frame (wpE (defs₀ (F := F)) Variants.none (c : Thread nD τ) none) Set.univ (defs₀ (F := F) .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat (defs₀ (F := F)) Variants.none () Set.univ := fun t => by
  simp only [hi]
  exact h t

/-- The library's body obligation, at every point. -/
theorem body_obligation (hO : Ok m) (c : Dev nD) : BodyObligation (dats (F := F) m hO 0 c) (defs₀ (F := F)) Variants.none () Set.univ :=
  obligation_of (dats (F := F) m hO 0 c) (fun w t => idle_eq (adm m hO) w t) fun t => by
    rw [bigSep_W0, bigSep_W0, defs₀_row m hO]
    exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- `run_main`'s statement, and every semaphore counter at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- The argument arrays end unchanged and every semaphore counter ends at zero, at any values of the floats, where the
    tables keep the blocks inside their arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Experts

end
-- ==== Proof.Experts.lean ====
/- The experts' first product: every grid point multiplies one block of an expert's rows by half of that expert's columns
   and gates the product, and the blocks make up the array that the reference states at once. -/
module

public import proofs.«01_k».proof.Defs
public import proofs.«01_k».proof.Proof.ExpertsPoint
public import proofs.«01_k».proof.Proof.ExpertsTerm
public import proofs.«01_k».proof.Proof.ExpertsFrame
public import proofs.«01_k».proof.Proof.Gen.ExpertsKernel
public import Idealize.ShloMosaic.Lib.Quiescent

@[expose] public section

set_option maxRecDepth 16384

noncomputable section

namespace Cert.Experts

open Cert.ExpertsKernelIdeal Cert.ExpertsKernelIdeal.Gen
open Idealize.ShloMosaic Idealize.ShloMosaic.TcCoe Idealize.SL.Sem

/-- The one word of a table with one entry. -/
theorem word_of {F : FTy → Type} [FloatOps F] (c : Dev nD) (z : IVec S1 32) (x : IVec S_ 32) (h : z = shapeCast S1 x shapeCasts_S_S1) :
    word (F := F) c z = x ValueIdx.ix0 := by
  rw [h]
  unfold word
  exact congrArg x (funext fun i => i.elim0)

/-- A point's buffer under equal inputs. -/
theorem out_congr {i : grid0.Coords} {x0 y0 : Vec Ideal S4096x128 .i32} {x1 y1 x2 y2 : Vec Ideal S1x1x2048x1024 .bf16}
    {x3 y3 x4 y4 : Vec Ideal S1x1x1x1024 .f32} {u v : BitVec 32} (h0 : x0 = y0) (h1 : x1 = y1) (h2 : x2 = y2) (h3 : x3 = y3) (h4 : x4 = y4) (h5 : u = v) :
    out0_5 (F := Ideal) i x0 x1 x2 x3 x4 u = out0_5 (F := Ideal) i y0 y1 y2 y3 y4 v := by
  subst h0 h1 h2 h3 h4 h5
  rfl

variable (m : (ℓ : Loc nD τ sig) → Buf (Elt Ideal) ℓ)

/-- The arguments, and the words looked up. -/
abbrev wordsOf (c : Dev nD) : IVec S1179648x128 32 := m ((c.tc : Thread nD τ).loc main_arg0)
abbrev weightsOf (c : Dev nD) : FVec Ideal S2x32x2048x4096 .f32 := m ((c.tc : Thread nD τ).loc main_arg2)
abbrev biasesOf (c : Dev nD) : FVec Ideal S2x32x4096 .f32 := m ((c.tc : Thread nD τ).loc main_arg3)
abbrev expertsOf (c : Dev nD) : IVec S288 32 := expert (ends (countsRunning (m ((c.tc : Thread nD τ).loc main_arg1))))
abbrev inUseOf (c : Dev nD) : IVec S_ 32 := inUse (lastEnd (ends (countsRunning (m ((c.tc : Thread nD τ).loc main_arg1)))))

/-- The biases as the windows read them. -/
def biasRows (v : FVec Ideal S2x32x4096 .f32) : FVec Ideal S2x32x1x4096 .f32 :=
  broadcastInDim S2x32x1x4096 ![0, 1, 3] bcast_S2x32x4096_S2x32x1x4096_0_1_3 v

theorem biasRows_apply (v : FVec Ideal S2x32x4096 .f32) (l : Fin 2) (e : Fin 32) (d : Fin 4096) :
    biasRows v (ValueIdx.ix4 l e (0 : Fin 1) d) = v (ValueIdx.ix3 l e d) :=
  broadcastInDim_apply _ bcast_S2x32x4096_S2x32x1x4096_0_1_3 v _ (ValueIdx.ix3 l e d) fun x => match x with
    | ⟨0, _⟩ => rfl
    | ⟨1, _⟩ => rfl
    | ⟨2, _⟩ => rfl

/-- What a point leaves, on the arguments. -/
theorem outsAt_eq (hO : Ok m) (c : Dev nD) (t : Fin (cfgM m hO).N) :
    outsAt0 m hO c t = out0_5 (F := Ideal) (grid0.coords t) (readBlk (adm m hO) c 0 t (wordsOf m c))
      (readBlk (adm m hO) c 1 t (truncf .bf16 (weightsOf m c) bitsLt_bf16_f32)) (readBlk (adm m hO) c 2 t (truncf .bf16 (weightsOf m c) bitsLt_bf16_f32))
      (readBlk (adm m hO) c 3 t (biasRows (biasesOf m c))) (readBlk (adm m hO) c 4 t (biasRows (biasesOf m c))) (inUseOf m c ValueIdx.ix0) :=
  out_congr (congrArg (readBlk (adm m hO) c 0 t) (V_main_arg0 m c)) (congrArg (readBlk (adm m hO) c 1 t) (V_weights m c))
    (congrArg (readBlk (adm m hO) c 2 t) (V_weights m c)) (congrArg (readBlk (adm m hO) c 3 t) (V_biases m c))
    (congrArg (readBlk (adm m hO) c 4 t) (V_biases m c)) (word_of c _ _ ((V_pre m c 1).symm.trans (V_inUse m c)))

/-- One point's block is its block of the reference's array. -/
theorem block_eq (a : (pcfg0 (F := Ideal)).Adm) (c : Dev nD) (x : IVec S1179648x128 32) (w : FVec Ideal S2x32x2048x4096 .f32) (v : FVec Ideal S2x32x4096 .f32)
    (te : IVec S288 32) (nv : IVec S_ 32) (ha : (a.1 0 : IVec S288 32) = te) (hle : ∀ b : Fin 288, (te (ValueIdx.ix1 b)).toNat ≤ 31)
    (t : Fin (cfg0 a).N) (r : Fin 512) (d : Fin 1024) :
    out0_5 (F := Ideal) (grid0.coords t) (readBlk a c 0 t x) (readBlk a c 1 t (truncf (F := Ideal) .bf16 w bitsLt_bf16_f32)) (readBlk a c 2 t (truncf (F := Ideal) .bf16 w bitsLt_bf16_f32))
        (readBlk a c 3 t (biasRows v)) (readBlk a c 4 t (biasRows v)) (nv ValueIdx.ix0) (ValueIdx.ix2 r d)
      = result x w v te nv (ValueIdx.ix2 (⟨512 * (rowOf t).val + r.val, by omega⟩ : Fin 147456) (⟨1024 * (halfOf t).val + d.val, by omega⟩ : Fin 2048)) := by
  have hb := hle (rowOf t)
  have he : te (ValueIdx.ix1 (rowOf t)) = BitVec.ofNat 32 (⟨(te (ValueIdx.ix1 (rowOf t))).toNat, by omega⟩ : Fin 32).val := by simp
  refine (point a c t ⟨(te (ValueIdx.ix1 (rowOf t))).toNat, by omega⟩ (by rw [ha]) x _ (biasRows v) (nv ValueIdx.ix0) r d).trans ?_
  refine Eq.trans ?_ (result_apply x w v te nv (rowOf t) _ he r ⟨1024 * (halfOf t).val + d.val, by omega⟩).symm
  rw [biasRows_apply, biasRows_apply]
  rfl

/-- The tables' words, for the points. -/
theorem table_eq (c : Dev nD) : (tbl m 0 : IVec S288 32) = expertsOf m c := (V_pre m c 0).symm.trans (V_expert m c)

/-- A point's block, at an index. -/
theorem outsAt_apply (hO : Ok m) (c : Dev nD) (t : Fin (cfgM m hO).N) (r : Fin 512) (d : Fin 1024) :
    outsAt0 m hO c t (ValueIdx.ix2 r d)
      = result (wordsOf m c) (weightsOf m c) (biasesOf m c) (expertsOf m c) (inUseOf m c)
          (ValueIdx.ix2 (⟨512 * (rowOf t).val + r.val, by omega⟩ : Fin 147456) (⟨1024 * (halfOf t).val + d.val, by omega⟩ : Fin 2048)) := by
  rw [outsAt_eq m hO c t]
  exact block_eq (adm m hO) c (wordsOf m c) (weightsOf m c) (biasesOf m c) (expertsOf m c) (inUseOf m c) (table_eq m c)
    (expert_le (ends (countsRunning (m ((c.tc : Thread nD τ).loc main_arg1))))) t r d

/-- The kernel's result array is the reference's. -/
theorem whole (hO : Ok m) (c : Dev nD) : arrOf (adm m hO) (dats m hO 0 c)
    = result (wordsOf m c) (weightsOf m c) (biasesOf m c) (expertsOf m c) (inUseOf m c) :=
  whole_of (adm m hO) (dats m hO 0 c) (result (wordsOf m c) (weightsOf m c) (biasesOf m c) (expertsOf m c) (inUseOf m c)) (outsAt0 m hO c)
    (after0_5 m hO c) (outsAt_apply m hO c)

/-- The kernel runs, ends with its result array as the blocks make it up, and leaves its arguments alone. -/
theorem run_blocks (ρ : Dev nD → PrngReg) : θ_run defs (onTc (τ := τ) (main (F := Ideal))) ⟨m, fun _ => 0, ρ⟩ (fun r => ∀ c : Dev nD,
      r.2.mem ((c.tc : Thread nD τ).loc main_v37) = arrOf (adm m (ok m)) (dats m (ok m) 0 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 5, h.2 c⟩) (θ_run_and (run_main m ρ (ok m)) (unchanged m ρ (ok m)))

/-- The two programs' frames are one statement: their texts are equal. -/
theorem same_frame : Cert.quiescent_ExpertsKernel
    = ((m : (ℓ : Loc nD τ sig) → Buf (Elt Bits) ℓ) → (ρ : Dev nD → PrngReg) → Cert.Pre_ExpertsKernel m →
        θ_run defs (onTc (τ := τ) (main (F := Bits))) ⟨m, fun _ => 0, ρ⟩ (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
          ∧ r.2.sem = fun _ => 0)) := by
  chain_rfl

/-- The kernel as printed runs, ends and leaves its arguments alone: the run above, at the words of the floats. -/
theorem frame_kernel : Cert.quiescent_ExpertsKernel := same_frame.mpr fun m ρ _ => frame (F := Bits) m ρ (ok m)

/-- The same of the kernel read at the ideal instance. -/
theorem frame_ideal : Cert.quiescent_ExpertsKernelIdeal := fun m ρ _ => frame (F := Ideal) m ρ (ok m)

/-- The same of the reference read at the ideal instance. -/
theorem frame_reference : Cert.quiescent_ExpertsReferenceIdeal := fun m ρ _ =>
  (θ_run Cert.ExpertsReferenceIdeal.defs _ _).mono (fun r h => ⟨fun c => (h c).2,
      Idealize.ShloMosaic.sem_eq_zero_of_no_sems (by decide) r.2⟩)
    (Cert.ExpertsReferenceIdeal.Value.run (F := Ideal) m ρ)

/-- Nothing is read differently at the ideal instance. -/
theorem preserves : Cert.preserves_ExpertsKernel_ExpertsKernelIdeal := trivial

/-- From memories that agree on the arguments both programs run and end with the same array. -/
theorem algebraic : Cert.algebraic_ExpertsKernelIdeal_ExpertsReferenceIdeal := by
  intro m g m' g' _ hargs
  refine ⟨fun c => arrOf (adm m (ok m)) (dats m (ok m) 0 c), run_blocks m g, ?_⟩
  refine (θ_run Cert.ExpertsReferenceIdeal.defs _ _).mono (fun r h c => ⟨(h c).1.trans ?_, (h c).2⟩)
    (Cert.ExpertsReferenceIdeal.Value.run (F := Ideal) m' g')
  refine (res_eq m' c).trans (Eq.trans ?_ (whole m (ok m) c).symm)
  rw [(hargs c).1, (hargs c).2.1, (hargs c).2.2.1, (hargs c).2.2.2, ← counts_eq]

end Cert.Experts

end
-- ==== Proof.lean ====
module

public import proofs.«01_k».proof.Defs
public import proofs.«01_k».proof.Proof.Frames
public import proofs.«01_k».proof.Proof.Whole
public import proofs.«01_k».proof.Proof.Qkv
public import proofs.«01_k».proof.Proof.Out
public import proofs.«01_k».proof.Proof.In
public import proofs.«01_k».proof.Proof.Back
public import proofs.«01_k».proof.Proof.Experts
public import proofs.«01_k».proof.Proof.Gen.KernelIdeal.Value
public import proofs.«01_k».proof.Proof.Gen.QkvKernel.Frame
public import proofs.«01_k».proof.Proof.Gen.OutKernel.Frame
public import proofs.«01_k».proof.Proof.Gen.InKernel.Frame
public import proofs.«01_k».proof.Proof.Gen.BackKernel.Frame
public import proofs.«01_k».proof.Proof.Gen.QkvKernelIdeal.Value
public import proofs.«01_k».proof.Proof.Gen.OutKernelIdeal.Value
public import proofs.«01_k».proof.Proof.Gen.InKernelIdeal.Value
public import proofs.«01_k».proof.Proof.Gen.BackKernelIdeal.Value
public import proofs.«01_k».proof.Proof.Gen.QkvReferenceIdeal.Run
public import proofs.«01_k».proof.Proof.Gen.OutReferenceIdeal.Run
public import proofs.«01_k».proof.Proof.Gen.InReferenceIdeal.Run
public import proofs.«01_k».proof.Proof.Gen.BackReferenceIdeal.Run
public import proofs.«01_k».proof.Proof.Gen.ExpertsKernel
public import proofs.«01_k».proof.Proof.Gen.ExpertsReferenceIdeal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.QkvKernel.Gen.facts, Cert.QkvKernelIdeal.Gen.facts, Cert.QkvReferenceIdeal.Gen.facts,
    Cert.OutKernel.Gen.facts, Cert.OutKernelIdeal.Gen.facts, Cert.OutReferenceIdeal.Gen.facts,
    Cert.InKernel.Gen.facts, Cert.InKernelIdeal.Gen.facts, Cert.InReferenceIdeal.Gen.facts,
    Cert.BackKernel.Gen.facts, Cert.BackKernelIdeal.Gen.facts, Cert.BackReferenceIdeal.Gen.facts,
    Cert.ExpertsKernel.Gen.facts, Cert.ExpertsKernelIdeal.Gen.facts, Cert.ExpertsReferenceIdeal.Gen.facts,
    Cert.Moba.preFacts, Cert.Moba.frame_kernel, Cert.Moba.frame_ideal, Cert.Moba.frame_ideal_pre, Cert.Moba.frame_reference,
    Cert.Moba.frame_reference_pre,
    Cert.Qkv.frame_kernel, Cert.Qkv.frame_ideal, Cert.Qkv.frame_reference,
    Cert.Out.frame_kernel, Cert.Out.frame_ideal, Cert.Out.frame_reference,
    Cert.In.frame_kernel, Cert.In.frame_ideal, Cert.In.frame_reference,
    Cert.Back.frame_kernel, Cert.Back.frame_ideal, Cert.Back.frame_reference,
    Cert.Experts.frame_kernel, Cert.Experts.frame_ideal, Cert.Experts.frame_reference,
    Cert.Moba.preserves, Cert.Moba.algebraic,
    Cert.Qkv.preserves, Cert.Qkv.algebraic,
    Cert.Out.preserves, Cert.Out.algebraic,
    Cert.In.preserves, Cert.In.algebraic,
    Cert.Back.preserves, Cert.Back.algebraic,
    Cert.Experts.preserves, Cert.Experts.algebraic⟩

end Cert.Proof

end
